-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_angles [hPre_angles : Cert.Pre_angles.Facts] (m : (ℓ : Loc Cert.KernelIdeal.nD Cert.KernelIdeal.τ Cert.KernelIdeal.sig) → Buf (Elt Ideal) ℓ) : Prop :=
  ∀ c : Dev Cert.KernelIdeal.nD,
    (Cert.Pre_angles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_angles [hPre_angles : Cert.Pre_angles.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_angles.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_angles [hKernelIdeal : Cert.KernelIdeal.Facts] [hPre_angles : Cert.Pre_angles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_angles m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_angles [hReferenceIdeal : Cert.ReferenceIdeal.Facts] [hPre_angles : Cert.Pre_angles.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_angles m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_angles [hKernelIdeal : Cert.KernelIdeal.Facts] [hReferenceIdeal : Cert.ReferenceIdeal.Facts] [hPre_angles : Cert.Pre_angles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_angles m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_angles : Cert.Pre_angles.Facts),
    quiescent_Kernel (hKernel := hKernel)
    ∧ quiescent_KernelIdeal (hKernelIdeal := hKernelIdeal)
    ∧ quiescent_KernelIdeal_pre_angles (hKernelIdeal := hKernelIdeal) (hPre_angles := hPre_angles)
    ∧ quiescent_ReferenceIdeal (hReferenceIdeal := hReferenceIdeal)
    ∧ quiescent_ReferenceIdeal_pre_angles (hReferenceIdeal := hReferenceIdeal) (hPre_angles := hPre_angles)
    ∧ preserves_Kernel_KernelIdeal
    ∧ algebraic_KernelIdeal_ReferenceIdeal_pre_angles (hKernelIdeal := hKernelIdeal) (hReferenceIdeal := hReferenceIdeal) (hPre_angles := hPre_angles)
-- ==== Pre_angles.lean ====
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg1 : FVec F S4096 .f32) (main_arg2 : FVec F S4096 .f32) (main_v12 : IVec S_ 1) (main_v14 : IVec S4096 1) (main_v15 : FVec F S4096 .f32) : IVec S_ 1 :=
  let main_v16 : IVec S4096 1 := cmpf .olt main_arg2 main_v15
  let main_v17 : IVec S4096 1 := andi main_v14 main_v16
  let main_c_6 : IVec S_ 1 := constantI S_ 1 1#1
  let main_v18 : IVec S_ 1 := (fun x v => Host.reduce IntOp.andi x v reducesTo_S4096_S_d0 h_S_) main_v17 main_c_6
  let main_v19 : IVec S_ 1 := andi main_v12 main_v18
  let main_cst_7 : FVec F S_ .f32 := constant S_ .f32 0x3F000000#32
  let main_v20 : FVec F S4096 .f32 := broadcastInDim S4096 ![] bcast_S_S4096 main_cst_7
  let main_v21 : FVec F S4096 .f32 := mulf main_v20 main_arg1
  let main_v22 : FVec F S4096 .f32 := Host.cos main_v21
  let main_cst_8 : FVec F S_ .f32 := constant S_ .f32 0x0DA24260#32
  let main_v23 : FVec F S4096 .f32 := broadcastInDim S4096 ![] bcast_S_S4096 main_cst_8
  let main_v24 : IVec S4096 1 := cmpf .oge main_v22 main_v23
  let main_c_9 : IVec S_ 1 := constantI S_ 1 1#1
  let main_v25 : IVec S_ 1 := (fun x v => Host.reduce IntOp.andi x v reducesTo_S4096_S_d0 h_S_) main_v24 main_c_9
  let main_v26 : IVec S_ 1 := andi main_v19 main_v25
  let main_cst_10 : FVec F S_ .f32 := constant S_ .f32 0x3F000000#32
  let main_v27 : FVec F S4096 .f32 := broadcastInDim S4096 ![] bcast_S_S4096 main_cst_10
  let main_v28 : FVec F S4096 .f32 := mulf main_v27 main_arg1
  let main_v29 : FVec F S4096 .f32 := Host.sin main_v28
  let main_cst_11 : FVec F S_ .f32 := constant S_ .f32 0x0DA24260#32
  let main_v30 : FVec F S4096 .f32 := broadcastInDim S4096 ![] bcast_S_S4096 main_cst_11
  let main_v31 : IVec S4096 1 := cmpf .oge main_v29 main_v30
  let main_c_12 : IVec S_ 1 := constantI S_ 1 1#1
  let main_v32 : IVec S_ 1 := (fun x v => Host.reduce IntOp.andi x v reducesTo_S4096_S_d0 h_S_) main_v31 main_c_12
  fn_part2 (F := F) main_v26 main_v32

def fn {F : FTy → Type} [FloatOps F] (main_arg0 : FVec F S4096 .f32) (main_arg1 : FVec F S4096 .f32) (main_arg2 : FVec F S4096 .f32) : IVec S_ 1 :=
  let main_cst : FVec F S_ .f32 := constant S_ .f32 0xFF800000#32
  let main_v0 : FVec F S4096 .f32 := broadcastInDim S4096 ![] bcast_S_S4096 main_cst
  let main_v1 : IVec S4096 1 := cmpf .ogt main_arg0 main_v0
  let main_cst_0 : FVec F S_ .f32 := constant S_ .f32 0x7F800000#32
  let main_v2 : FVec F S4096 .f32 := broadcastInDim S4096 ![] bcast_S_S4096 main_cst_0
  let main_v3 : IVec S4096 1 := cmpf .olt main_arg0 main_v2
  let main_v4 : IVec S4096 1 := andi main_v1 main_v3
  let main_c : IVec S_ 1 := constantI S_ 1 1#1
  let main_v5 : IVec S_ 1 := (fun x v => Host.reduce IntOp.andi x v reducesTo_S4096_S_d0 h_S_) main_v4 main_c
  let main_cst_1 : FVec F S_ .f32 := constant S_ .f32 0xFF800000#32
  let main_v6 : FVec F S4096 .f32 := broadcastInDim S4096 ![] bcast_S_S4096 main_cst_1
  let main_v7 : IVec S4096 1 := cmpf .ogt main_arg1 main_v6
  let main_cst_2 : FVec F S_ .f32 := constant S_ .f32 0x7F800000#32
  let main_v8 : FVec F S4096 .f32 := broadcastInDim S4096 ![] bcast_S_S4096 main_cst_2
  let main_v9 : IVec S4096 1 := cmpf .olt main_arg1 main_v8
  let main_v10 : IVec S4096 1 := andi main_v7 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v5 main_v11
  let main_cst_4 : FVec F S_ .f32 := constant S_ .f32 0xFF800000#32
  let main_v13 : FVec F S4096 .f32 := broadcastInDim S4096 ![] bcast_S_S4096 main_cst_4
  let main_v14 : IVec S4096 1 := cmpf .ogt main_arg2 main_v13
  let main_cst_5 : FVec F S_ .f32 := constant S_ .f32 0x7F800000#32
  let main_v15 : FVec F S4096 .f32 := broadcastInDim S4096 ![] bcast_S_S4096 main_cst_5
  fn_part1 (F := F) main_arg1 main_arg2 main_v12 main_v14 main_v15
-- ==== Kernel.lean ====
abbrev S4096 : Shape := ⟨1, ![4096]⟩
abbrev S2685 : Shape := ⟨1, ![2685]⟩
abbrev S1792 : Shape := ⟨1, ![1792]⟩
abbrev S2x18x3584 : Shape := ⟨3, ![2, 18, 3584]⟩
abbrev S3x81 : Shape := ⟨2, ![3, 81]⟩
abbrev S4096x1 : Shape := ⟨2, ![4096, 1]⟩
abbrev S_ : Shape := ⟨0, ![]⟩
abbrev S81x1792 : Shape := ⟨2, ![81, 1792]⟩
abbrev S2685x1 : Shape := ⟨2, ![2685, 1]⟩
abbrev S2685x2 : Shape := ⟨2, ![2685, 2]⟩
abbrev S1792x1 : Shape := ⟨2, ![1792, 1]⟩
abbrev S1x1792 : Shape := ⟨2, ![1, 1792]⟩
abbrev S81x3584 : Shape := ⟨2, ![81, 3584]⟩
abbrev S243x3584 : Shape := ⟨2, ![243, 3584]⟩
abbrev S4096x81x81 : Shape := ⟨3, ![4096, 81, 81]⟩
abbrev S128x1 : Shape := ⟨2, ![128, 1]⟩
abbrev S128x81x81 : Shape := ⟨3, ![128, 81, 81]⟩
abbrev S1x81 : Shape := ⟨2, ![1, 81]⟩
abbrev S128x81 : Shape := ⟨2, ![128, 81]⟩
abbrev S128x243 : Shape := ⟨2, ![128, 243]⟩
abbrev S128x3584 : Shape := ⟨2, ![128, 3584]⟩
abbrev S1x9 : Shape := ⟨2, ![1, 9]⟩
abbrev S128x9 : Shape := ⟨2, ![128, 9]⟩
abbrev S128x18 : Shape := ⟨2, ![128, 18]⟩
abbrev S1x18x3584 : Shape := ⟨3, ![1, 18, 3584]⟩
abbrev S18x3584 : Shape := ⟨2, ![18, 3584]⟩
abbrev S128x36 : Shape := ⟨2, ![128, 36]⟩
abbrev S36x3584 : Shape := ⟨2, ![36, 3584]⟩
abbrev S128x1792 : Shape := ⟨2, ![128, 1792]⟩
abbrev S128x1x1 : Shape := ⟨3, ![128, 1, 1]⟩
abbrev S128x3x3 : Shape := ⟨3, ![128, 3, 3]⟩
abbrev S128x25 : Shape := ⟨2, ![128, 25]⟩
abbrev S128x5x5 : Shape := ⟨3, ![128, 5, 5]⟩
abbrev S128x49 : Shape := ⟨2, ![128, 49]⟩
abbrev S128x7x7 : Shape := ⟨3, ![128, 7, 7]⟩
abbrev S128x9x9 : Shape := ⟨3, ![128, 9, 9]⟩
abbrev S128x121 : Shape := ⟨2, ![128, 121]⟩
abbrev S128x11x11 : Shape := ⟨3, ![128, 11, 11]⟩
abbrev S128x169 : Shape := ⟨2, ![128, 169]⟩
abbrev S128x13x13 : Shape := ⟨3, ![128, 13, 13]⟩
abbrev S128x225 : Shape := ⟨2, ![128, 225]⟩
abbrev S128x15x15 : Shape := ⟨3, ![128, 15, 15]⟩
abbrev S128x289 : Shape := ⟨2, ![128, 289]⟩
abbrev S128x17x17 : Shape := ⟨3, ![128, 17, 17]⟩

abbrev nBuf : Space → Nat
  | .hbm => 126
  | .vmem => 11
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S2685, .f32⟩
  | .hbm, ⟨4, _⟩ => ⟨S2685, .i32⟩
  | .hbm, ⟨5, _⟩ => ⟨S2685, .i1⟩
  | .hbm, ⟨6, _⟩ => ⟨S2685, .i32⟩
  | .hbm, ⟨7, _⟩ => ⟨S2685, .i1⟩
  | .hbm, ⟨8, _⟩ => ⟨S1792, .i1⟩
  | .hbm, ⟨9, _⟩ => ⟨S1792, .i1⟩
  | .hbm, ⟨10, _⟩ => ⟨S1792, .i32⟩
  | .hbm, ⟨11, _⟩ => ⟨S1792, .i1⟩
  | .hbm, ⟨12, _⟩ => ⟨S1792, .i32⟩
  | .hbm, ⟨13, _⟩ => ⟨S1792, .i1⟩
  | .hbm, ⟨14, _⟩ => ⟨S1792, .i32⟩
  | .hbm, ⟨15, _⟩ => ⟨S1792, .i1⟩
  | .hbm, ⟨16, _⟩ => ⟨S1792, .i32⟩
  | .hbm, ⟨17, _⟩ => ⟨S1792, .i1⟩
  | .hbm, ⟨18, _⟩ => ⟨S1792, .f32⟩
  | .hbm, ⟨19, _⟩ => ⟨S1792, .f32⟩
  | .hbm, ⟨20, _⟩ => ⟨S1792, .f32⟩
  | .hbm, ⟨21, _⟩ => ⟨S1792, .f32⟩
  | .hbm, ⟨22, _⟩ => ⟨S2x18x3584, .bf16⟩
  | .hbm, ⟨23, _⟩ => ⟨S3x81, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S81x1792, .f32⟩
  | .hbm, ⟨29, _⟩ => ⟨S_, .i32⟩
  | .hbm, ⟨30, _⟩ => ⟨S2685, .i32⟩
  | .hbm, ⟨31, _⟩ => ⟨S2685, .i32⟩
  | .hbm, ⟨32, _⟩ => ⟨S2685, .i32⟩
  | .hbm, ⟨33, _⟩ => ⟨S_, .i32⟩
  | .hbm, ⟨34, _⟩ => ⟨S2685, .i32⟩
  | .hbm, ⟨35, _⟩ => ⟨S2685, .i32⟩
  | .hbm, ⟨36, _⟩ => ⟨S2685, .i32⟩
  | .hbm, ⟨37, _⟩ => ⟨S2685x1, .i32⟩
  | .hbm, ⟨38, _⟩ => ⟨S2685x1, .i32⟩
  | .hbm, ⟨39, _⟩ => ⟨S2685x2, .i32⟩
  | .hbm, ⟨40, _⟩ => ⟨S81x1792, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1792, .f32⟩
  | .hbm, ⟨48, _⟩ => ⟨S1792, .f32⟩
  | .hbm, ⟨49, _⟩ => ⟨S1792, .f32⟩
  | .hbm, ⟨50, _⟩ => ⟨S_, .f32⟩
  | .hbm, ⟨51, _⟩ => ⟨S1792, .f32⟩
  | .hbm, ⟨52, _⟩ => ⟨S1792, .f32⟩
  | .hbm, ⟨53, _⟩ => ⟨S_, .f32⟩
  | .hbm, ⟨54, _⟩ => ⟨S_, .f32⟩
  | .hbm, ⟨55, _⟩ => ⟨S1792, .f32⟩
  | .hbm, ⟨56, _⟩ => ⟨S1792, .f32⟩
  | .hbm, ⟨57, _⟩ => ⟨S1792, .f32⟩
  | .hbm, ⟨58, _⟩ => ⟨S1792, .f32⟩
  | .hbm, ⟨59, _⟩ => ⟨S_, .i32⟩
  | .hbm, ⟨60, _⟩ => ⟨S1792, .i32⟩
  | .hbm, ⟨61, _⟩ => ⟨S1792, .i32⟩
  | .hbm, ⟨62, _⟩ => ⟨S1792, .i32⟩
  | .hbm, ⟨63, _⟩ => ⟨S1792x1, .i32⟩
  | .hbm, ⟨64, _⟩ => ⟨S81x1792, .f32⟩
  | .hbm, ⟨65, _⟩ => ⟨S_, .i32⟩
  | .hbm, ⟨66, _⟩ => ⟨S1792, .i32⟩
  | .hbm, ⟨67, _⟩ => ⟨S1792, .i32⟩
  | .hbm, ⟨68, _⟩ => ⟨S1792, .i32⟩
  | .hbm, ⟨69, _⟩ => ⟨S1792x1, .i32⟩
  | .hbm, ⟨70, _⟩ => ⟨S81x1792, .f32⟩
  | .hbm, ⟨71, _⟩ => ⟨S_, .i32⟩
  | .hbm, ⟨72, _⟩ => ⟨S1792, .i32⟩
  | .hbm, ⟨73, _⟩ => ⟨S1792, .i32⟩
  | .hbm, ⟨74, _⟩ => ⟨S1792, .i32⟩
  | .hbm, ⟨75, _⟩ => ⟨S1792x1, .i32⟩
  | .hbm, ⟨76, _⟩ => ⟨S81x1792, .f32⟩
  | .hbm, ⟨77, _⟩ => ⟨S_, .i32⟩
  | .hbm, ⟨78, _⟩ => ⟨S1792, .i32⟩
  | .hbm, ⟨79, _⟩ => ⟨S1792, .i32⟩
  | .hbm, ⟨80, _⟩ => ⟨S1792, .i32⟩
  | .hbm, ⟨81, _⟩ => ⟨S1792x1, .i32⟩
  | .hbm, ⟨82, _⟩ => ⟨S81x1792, .f32⟩
  | .hbm, ⟨83, _⟩ => ⟨S1x1792, .f32⟩
  | .hbm, ⟨84, _⟩ => ⟨S81x1792, .f32⟩
  | .hbm, ⟨85, _⟩ => ⟨S81x1792, .f32⟩
  | .hbm, ⟨86, _⟩ => ⟨S1x1792, .f32⟩
  | .hbm, ⟨87, _⟩ => ⟨S81x1792, .f32⟩
  | .hbm, ⟨88, _⟩ => ⟨S81x1792, .f32⟩
  | .hbm, ⟨89, _⟩ => ⟨S81x1792, .f32⟩
  | .hbm, ⟨90, _⟩ => ⟨S1x1792, .f32⟩
  | .hbm, ⟨91, _⟩ => ⟨S81x1792, .f32⟩
  | .hbm, ⟨92, _⟩ => ⟨S81x1792, .f32⟩
  | .hbm, ⟨93, _⟩ => ⟨S81x1792, .f32⟩
  | .hbm, ⟨94, _⟩ => ⟨S1x1792, .f32⟩
  | .hbm, ⟨95, _⟩ => ⟨S81x1792, .f32⟩
  | .hbm, ⟨96, _⟩ => ⟨S81x1792, .f32⟩
  | .hbm, ⟨97, _⟩ => ⟨S81x1792, .f32⟩
  | .hbm, ⟨98, _⟩ => ⟨S1x1792, .f32⟩
  | .hbm, ⟨99, _⟩ => ⟨S81x1792, .f32⟩
  | .hbm, ⟨100, _⟩ => ⟨S81x1792, .f32⟩
  | .hbm, ⟨101, _⟩ => ⟨S1x1792, .f32⟩
  | .hbm, ⟨102, _⟩ => ⟨S81x1792, .f32⟩
  | .hbm, ⟨103, _⟩ => ⟨S81x1792, .f32⟩
  | .hbm, ⟨104, _⟩ => ⟨S1x1792, .f32⟩
  | .hbm, ⟨105, _⟩ => ⟨S81x1792, .f32⟩
  | .hbm, ⟨106, _⟩ => ⟨S81x1792, .f32⟩
  | .hbm, ⟨107, _⟩ => ⟨S81x1792, .f32⟩
  | .hbm, ⟨108, _⟩ => ⟨S1x1792, .f32⟩
  | .hbm, ⟨109, _⟩ => ⟨S81x1792, .f32⟩
  | .hbm, ⟨110, _⟩ => ⟨S81x1792, .f32⟩
  | .hbm, ⟨111, _⟩ => ⟨S81x1792, .f32⟩
  | .hbm, ⟨112, _⟩ => ⟨S1x1792, .f32⟩
  | .hbm, ⟨113, _⟩ => ⟨S81x1792, .f32⟩
  | .hbm, ⟨114, _⟩ => ⟨S81x1792, .f32⟩
  | .hbm, ⟨115, _⟩ => ⟨S81x1792, .f32⟩
  | .hbm, ⟨116, _⟩ => ⟨S1x1792, .f32⟩
  | .hbm, ⟨117, _⟩ => ⟨S81x1792, .f32⟩
  | .hbm, ⟨118, _⟩ => ⟨S81x1792, .f32⟩
  | .hbm, ⟨119, _⟩ => ⟨S81x3584, .f32⟩
  | .hbm, ⟨120, _⟩ => ⟨S81x3584, .bf16⟩
  | .hbm, ⟨121, _⟩ => ⟨S81x3584, .f32⟩
  | .hbm, ⟨122, _⟩ => ⟨S81x3584, .f32⟩
  | .hbm, ⟨123, _⟩ => ⟨S81x3584, .bf16⟩
  | .hbm, ⟨124, _⟩ => ⟨S243x3584, .bf16⟩
  | .hbm, ⟨125, _⟩ => ⟨S4096x81x81, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S243x3584, .bf16⟩
  | .local _ .vmem, ⟨7, _⟩ => ⟨S2x18x3584, .bf16⟩
  | .local _ .vmem, ⟨8, _⟩ => ⟨S3x81, .f32⟩
  | .local _ .vmem, ⟨9, _⟩ => ⟨S128x81x81, .f32⟩
  | .local _ .vmem, ⟨10, _⟩ => ⟨S128x81x81, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_c : Ref sig .tc := ⟨.hbm, 4, rfl⟩
abbrev main_call0_c_0 : Ref sig .tc := ⟨.hbm, 5, rfl⟩
abbrev main_call0_c_1 : Ref sig .tc := ⟨.hbm, 6, rfl⟩
abbrev main_call0_c_2 : Ref sig .tc := ⟨.hbm, 7, rfl⟩
abbrev main_call0_c_3 : Ref sig .tc := ⟨.hbm, 8, rfl⟩
abbrev main_call0_c_4 : Ref sig .tc := ⟨.hbm, 9, rfl⟩
abbrev main_call0_c_5 : Ref sig .tc := ⟨.hbm, 10, rfl⟩
abbrev main_call0_c_6 : Ref sig .tc := ⟨.hbm, 11, rfl⟩
abbrev main_call0_c_7 : Ref sig .tc := ⟨.hbm, 12, rfl⟩
abbrev main_call0_c_8 : Ref sig .tc := ⟨.hbm, 13, rfl⟩
abbrev main_call0_c_9 : Ref sig .tc := ⟨.hbm, 14, rfl⟩
abbrev main_call0_c_10 : Ref sig .tc := ⟨.hbm, 15, rfl⟩
abbrev main_call0_c_11 : Ref sig .tc := ⟨.hbm, 16, rfl⟩
abbrev main_call0_c_12 : Ref sig .tc := ⟨.hbm, 17, rfl⟩
abbrev main_call0_cst_13 : Ref sig .tc := ⟨.hbm, 18, rfl⟩
abbrev main_call0_cst_14 : Ref sig .tc := ⟨.hbm, 19, rfl⟩
abbrev main_call0_cst_15 : Ref sig .tc := ⟨.hbm, 20, rfl⟩
abbrev main_call0_cst_16 : Ref sig .tc := ⟨.hbm, 21, rfl⟩
abbrev main_call0_cst_17 : Ref sig .tc := ⟨.hbm, 22, rfl⟩
abbrev main_call0_cst_18 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_cst_19 : Ref sig .tc := ⟨.hbm, 27, rfl⟩
abbrev main_call0_v3 : Ref sig .tc := ⟨.hbm, 28, rfl⟩
abbrev main_call0_c_20 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_c_21 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_cst_22 : Ref sig .tc := ⟨.hbm, 41, rfl⟩
abbrev main_call0_v14 : Ref sig .tc := ⟨.hbm, 42, rfl⟩
abbrev main_call0_cst_23 : Ref sig .tc := ⟨.hbm, 43, rfl⟩
abbrev main_call0_v15 : Ref sig .tc := ⟨.hbm, 44, rfl⟩
abbrev main_call0_cst_24 : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_v16 : Ref sig .tc := ⟨.hbm, 49, rfl⟩
abbrev main_call0_cst_25 : Ref sig .tc := ⟨.hbm, 50, rfl⟩
abbrev main_call0_v17 : Ref sig .tc := ⟨.hbm, 51, rfl⟩
abbrev main_call0_v18 : Ref sig .tc := ⟨.hbm, 52, rfl⟩
abbrev main_call0_cst_26 : Ref sig .tc := ⟨.hbm, 53, rfl⟩
abbrev main_call0_call1_v0 : Ref sig .tc := ⟨.hbm, 54, rfl⟩
abbrev main_call0_call1_v1 : Ref sig .tc := ⟨.hbm, 55, rfl⟩
abbrev main_call0_call1_v2 : Ref sig .tc := ⟨.hbm, 56, rfl⟩
abbrev main_call0_v19 : Ref sig .tc := ⟨.hbm, 57, rfl⟩
abbrev main_call0_v20 : Ref sig .tc := ⟨.hbm, 58, rfl⟩
abbrev main_call0_c_27 : Ref sig .tc := ⟨.hbm, 59, rfl⟩
abbrev main_call0_v21 : Ref sig .tc := ⟨.hbm, 60, rfl⟩
abbrev main_call0_v22 : Ref sig .tc := ⟨.hbm, 61, rfl⟩
abbrev main_call0_v23 : Ref sig .tc := ⟨.hbm, 62, rfl⟩
abbrev main_call0_v24 : Ref sig .tc := ⟨.hbm, 63, rfl⟩
abbrev main_call0_v25 : Ref sig .tc := ⟨.hbm, 64, rfl⟩
abbrev main_call0_c_28 : Ref sig .tc := ⟨.hbm, 65, rfl⟩
abbrev main_call0_v26 : Ref sig .tc := ⟨.hbm, 66, rfl⟩
abbrev main_call0_v27 : Ref sig .tc := ⟨.hbm, 67, rfl⟩
abbrev main_call0_v28 : Ref sig .tc := ⟨.hbm, 68, rfl⟩
abbrev main_call0_v29 : Ref sig .tc := ⟨.hbm, 69, rfl⟩
abbrev main_call0_v30 : Ref sig .tc := ⟨.hbm, 70, rfl⟩
abbrev main_call0_c_29 : Ref sig .tc := ⟨.hbm, 71, rfl⟩
abbrev main_call0_v31 : Ref sig .tc := ⟨.hbm, 72, rfl⟩
abbrev main_call0_v32 : Ref sig .tc := ⟨.hbm, 73, rfl⟩
abbrev main_call0_v33 : Ref sig .tc := ⟨.hbm, 74, rfl⟩
abbrev main_call0_v34 : Ref sig .tc := ⟨.hbm, 75, rfl⟩
abbrev main_call0_v35 : Ref sig .tc := ⟨.hbm, 76, rfl⟩
abbrev main_call0_c_30 : Ref sig .tc := ⟨.hbm, 77, rfl⟩
abbrev main_call0_v36 : Ref sig .tc := ⟨.hbm, 78, rfl⟩
abbrev main_call0_v37 : Ref sig .tc := ⟨.hbm, 79, rfl⟩
abbrev main_call0_v38 : Ref sig .tc := ⟨.hbm, 80, rfl⟩
abbrev main_call0_v39 : Ref sig .tc := ⟨.hbm, 81, rfl⟩
abbrev main_call0_v40 : Ref sig .tc := ⟨.hbm, 82, rfl⟩
abbrev main_call0_v41 : Ref sig .tc := ⟨.hbm, 83, rfl⟩
abbrev main_call0_v42 : Ref sig .tc := ⟨.hbm, 84, rfl⟩
abbrev main_call0_v43 : Ref sig .tc := ⟨.hbm, 85, rfl⟩
abbrev main_call0_v44 : Ref sig .tc := ⟨.hbm, 86, rfl⟩
abbrev main_call0_v45 : Ref sig .tc := ⟨.hbm, 87, rfl⟩
abbrev main_call0_v46 : Ref sig .tc := ⟨.hbm, 88, rfl⟩
abbrev main_call0_v47 : Ref sig .tc := ⟨.hbm, 89, rfl⟩
abbrev main_call0_v48 : Ref sig .tc := ⟨.hbm, 90, rfl⟩
abbrev main_call0_v49 : Ref sig .tc := ⟨.hbm, 91, rfl⟩
abbrev main_call0_v50 : Ref sig .tc := ⟨.hbm, 92, rfl⟩
abbrev main_call0_v51 : Ref sig .tc := ⟨.hbm, 93, rfl⟩
abbrev main_call0_v52 : Ref sig .tc := ⟨.hbm, 94, rfl⟩
abbrev main_call0_v53 : Ref sig .tc := ⟨.hbm, 95, rfl⟩
abbrev main_call0_v54 : Ref sig .tc := ⟨.hbm, 96, rfl⟩
abbrev main_call0_v55 : Ref sig .tc := ⟨.hbm, 97, rfl⟩
abbrev main_call0_v56 : Ref sig .tc := ⟨.hbm, 98, rfl⟩
abbrev main_call0_v57 : Ref sig .tc := ⟨.hbm, 99, rfl⟩
abbrev main_call0_v58 : Ref sig .tc := ⟨.hbm, 100, rfl⟩
abbrev main_call0_v59 : Ref sig .tc := ⟨.hbm, 101, rfl⟩
abbrev main_call0_v60 : Ref sig .tc := ⟨.hbm, 102, rfl⟩
abbrev main_call0_v61 : Ref sig .tc := ⟨.hbm, 103, rfl⟩
abbrev main_call0_v62 : Ref sig .tc := ⟨.hbm, 104, rfl⟩
abbrev main_call0_v63 : Ref sig .tc := ⟨.hbm, 105, rfl⟩
abbrev main_call0_v64 : Ref sig .tc := ⟨.hbm, 106, rfl⟩
abbrev main_call0_v65 : Ref sig .tc := ⟨.hbm, 107, rfl⟩
abbrev main_call0_v66 : Ref sig .tc := ⟨.hbm, 108, rfl⟩
abbrev main_call0_v67 : Ref sig .tc := ⟨.hbm, 109, rfl⟩
abbrev main_call0_v68 : Ref sig .tc := ⟨.hbm, 110, rfl⟩
abbrev main_call0_v69 : Ref sig .tc := ⟨.hbm, 111, rfl⟩
abbrev main_call0_v70 : Ref sig .tc := ⟨.hbm, 112, rfl⟩
abbrev main_call0_v71 : Ref sig .tc := ⟨.hbm, 113, rfl⟩
abbrev main_call0_v72 : Ref sig .tc := ⟨.hbm, 114, rfl⟩
abbrev main_call0_v73 : Ref sig .tc := ⟨.hbm, 115, rfl⟩
abbrev main_call0_v74 : Ref sig .tc := ⟨.hbm, 116, rfl⟩
abbrev main_call0_v75 : Ref sig .tc := ⟨.hbm, 117, rfl⟩
abbrev main_call0_v76 : Ref sig .tc := ⟨.hbm, 118, rfl⟩
abbrev main_call0_v77 : Ref sig .tc := ⟨.hbm, 119, rfl⟩
abbrev main_call0_v78 : Ref sig .tc := ⟨.hbm, 120, rfl⟩
abbrev main_call0_v79 : Ref sig .tc := ⟨.hbm, 121, rfl⟩
abbrev main_call0_v80 : Ref sig .tc := ⟨.hbm, 122, rfl⟩
abbrev main_call0_v81 : Ref sig .tc := ⟨.hbm, 123, rfl⟩
abbrev main_call0_v82 : Ref sig .tc := ⟨.hbm, 124, rfl⟩
abbrev main_v0 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S243x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x18x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x81 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x81x81 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096 : Shape := ⟨1, ![4096]⟩
abbrev S2685 : Shape := ⟨1, ![2685]⟩
abbrev S1x2685 : Shape := ⟨2, ![1, 2685]⟩
abbrev S81 : Shape := ⟨1, ![81]⟩
abbrev S1x81 : Shape := ⟨2, ![1, 81]⟩
abbrev S81x81 : Shape := ⟨2, ![81, 81]⟩
abbrev S_ : Shape := ⟨0, ![]⟩
abbrev S4096x1 : Shape := ⟨2, ![4096, 1]⟩
abbrev S4096x2685 : Shape := ⟨2, ![4096, 2685]⟩
abbrev S4096x81x81 : Shape := ⟨3, ![4096, 81, 81]⟩
abbrev S2685x1 : Shape := ⟨2, ![2685, 1]⟩
abbrev S2685x2 : Shape := ⟨2, ![2685, 2]⟩
abbrev S4096x81 : Shape := ⟨2, ![4096, 81]⟩
abbrev S4096x81x1 : Shape := ⟨3, ![4096, 81, 1]⟩
abbrev S4096x1x81 : Shape := ⟨3, ![4096, 1, 81]⟩
abbrev S81x1 : Shape := ⟨2, ![81, 1]⟩

abbrev nBuf : Space → Nat
  | .hbm => 112
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S2685, .f32⟩
  | .hbm, ⟨4, _⟩ => ⟨S1x2685, .f32⟩
  | .hbm, ⟨5, _⟩ => ⟨S2685, .f32⟩
  | .hbm, ⟨6, _⟩ => ⟨S1x2685, .f32⟩
  | .hbm, ⟨7, _⟩ => ⟨S2685, .f32⟩
  | .hbm, ⟨8, _⟩ => ⟨S1x2685, .f32⟩
  | .hbm, ⟨9, _⟩ => ⟨S2685, .i32⟩
  | .hbm, ⟨10, _⟩ => ⟨S2685, .i1⟩
  | .hbm, ⟨11, _⟩ => ⟨S2685, .i32⟩
  | .hbm, ⟨12, _⟩ => ⟨S2685, .i1⟩
  | .hbm, ⟨13, _⟩ => ⟨S81, .f32⟩
  | .hbm, ⟨14, _⟩ => ⟨S1x81, .f32⟩
  | .hbm, ⟨15, _⟩ => ⟨S81, .f32⟩
  | .hbm, ⟨16, _⟩ => ⟨S1x81, .f32⟩
  | .hbm, ⟨17, _⟩ => ⟨S81, .i1⟩
  | .hbm, ⟨18, _⟩ => ⟨S81x81, .f32⟩
  | .hbm, ⟨19, _⟩ => ⟨S81x81, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096x1, .f32⟩
  | .hbm, ⟨29, _⟩ => ⟨S4096x2685, .f32⟩
  | .hbm, ⟨30, _⟩ => ⟨S4096x2685, .f32⟩
  | .hbm, ⟨31, _⟩ => ⟨S4096x2685, .f32⟩
  | .hbm, ⟨32, _⟩ => ⟨S4096x2685, .f32⟩
  | .hbm, ⟨33, _⟩ => ⟨S4096x2685, .f32⟩
  | .hbm, ⟨34, _⟩ => ⟨S4096x1, .f32⟩
  | .hbm, ⟨35, _⟩ => ⟨S4096x2685, .f32⟩
  | .hbm, ⟨36, _⟩ => ⟨S4096x2685, .f32⟩
  | .hbm, ⟨37, _⟩ => ⟨S4096x2685, .f32⟩
  | .hbm, ⟨38, _⟩ => ⟨S4096x2685, .f32⟩
  | .hbm, ⟨39, _⟩ => ⟨S_, .f32⟩
  | .hbm, ⟨40, _⟩ => ⟨S4096x81x81, .f32⟩
  | .hbm, ⟨41, _⟩ => ⟨S_, .i32⟩
  | .hbm, ⟨42, _⟩ => ⟨S2685, .i32⟩
  | .hbm, ⟨43, _⟩ => ⟨S2685, .i32⟩
  | .hbm, ⟨44, _⟩ => ⟨S2685, .i32⟩
  | .hbm, ⟨45, _⟩ => ⟨S_, .i32⟩
  | .hbm, ⟨46, _⟩ => ⟨S2685, .i32⟩
  | .hbm, ⟨47, _⟩ => ⟨S2685, .i32⟩
  | .hbm, ⟨48, _⟩ => ⟨S2685, .i32⟩
  | .hbm, ⟨49, _⟩ => ⟨S2685x1, .i32⟩
  | .hbm, ⟨50, _⟩ => ⟨S2685x1, .i32⟩
  | .hbm, ⟨51, _⟩ => ⟨S2685x2, .i32⟩
  | .hbm, ⟨52, _⟩ => ⟨S4096x81x81, .f32⟩
  | .hbm, ⟨53, _⟩ => ⟨S4096x1, .f32⟩
  | .hbm, ⟨54, _⟩ => ⟨S4096x81, .f32⟩
  | .hbm, ⟨55, _⟩ => ⟨S4096x81, .f32⟩
  | .hbm, ⟨56, _⟩ => ⟨S4096x81, .f32⟩
  | .hbm, ⟨57, _⟩ => ⟨S4096x1, .f32⟩
  | .hbm, ⟨58, _⟩ => ⟨S4096x81, .f32⟩
  | .hbm, ⟨59, _⟩ => ⟨S4096x81, .f32⟩
  | .hbm, ⟨60, _⟩ => ⟨S4096x81, .f32⟩
  | .hbm, ⟨61, _⟩ => ⟨S4096x81, .f32⟩
  | .hbm, ⟨62, _⟩ => ⟨S4096x81x1, .f32⟩
  | .hbm, ⟨63, _⟩ => ⟨S4096x81, .f32⟩
  | .hbm, ⟨64, _⟩ => ⟨S4096x81x1, .f32⟩
  | .hbm, ⟨65, _⟩ => ⟨S4096x81x1, .f32⟩
  | .hbm, ⟨66, _⟩ => ⟨S4096x81, .f32⟩
  | .hbm, ⟨67, _⟩ => ⟨S4096x1x81, .f32⟩
  | .hbm, ⟨68, _⟩ => ⟨S4096x81, .f32⟩
  | .hbm, ⟨69, _⟩ => ⟨S4096x1x81, .f32⟩
  | .hbm, ⟨70, _⟩ => ⟨S4096x1x81, .f32⟩
  | .hbm, ⟨71, _⟩ => ⟨S4096x81x81, .f32⟩
  | .hbm, ⟨72, _⟩ => ⟨S4096x81x81, .f32⟩
  | .hbm, ⟨73, _⟩ => ⟨S4096x81x81, .f32⟩
  | .hbm, ⟨74, _⟩ => ⟨S4096x81x81, .f32⟩
  | .hbm, ⟨75, _⟩ => ⟨S4096x81x81, .f32⟩
  | .hbm, ⟨76, _⟩ => ⟨S4096x81x81, .f32⟩
  | .hbm, ⟨77, _⟩ => ⟨S4096x81x81, .f32⟩
  | .hbm, ⟨78, _⟩ => ⟨S4096x81x81, .f32⟩
  | .hbm, ⟨79, _⟩ => ⟨S4096x81x81, .f32⟩
  | .hbm, ⟨80, _⟩ => ⟨S4096x81x81, .f32⟩
  | .hbm, ⟨81, _⟩ => ⟨S4096x81x81, .f32⟩
  | .hbm, ⟨82, _⟩ => ⟨S4096x81x81, .f32⟩
  | .hbm, ⟨83, _⟩ => ⟨S4096x81x81, .f32⟩
  | .hbm, ⟨84, _⟩ => ⟨S4096x81x81, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S81, .f32⟩
  | .hbm, ⟨92, _⟩ => ⟨S81, .f32⟩
  | .hbm, ⟨93, _⟩ => ⟨S81, .f32⟩
  | .hbm, ⟨94, _⟩ => ⟨S81x1, .f32⟩
  | .hbm, ⟨95, _⟩ => ⟨S81x81, .f32⟩
  | .hbm, ⟨96, _⟩ => ⟨S81x81, .f32⟩
  | .hbm, ⟨97, _⟩ => ⟨S81x81, .f32⟩
  | .hbm, ⟨98, _⟩ => ⟨S81x81, .f32⟩
  | .hbm, ⟨99, _⟩ => ⟨S4096x81x81, .f32⟩
  | .hbm, ⟨100, _⟩ => ⟨S4096x81x81, .f32⟩
  | .hbm, ⟨101, _⟩ => ⟨S4096x81x81, .f32⟩
  | .hbm, ⟨102, _⟩ => ⟨S4096x81x81, .f32⟩
  | .hbm, ⟨103, _⟩ => ⟨S4096x81x81, .f32⟩
  | .hbm, ⟨104, _⟩ => ⟨S4096x81x81, .f32⟩
  | .hbm, ⟨105, _⟩ => ⟨S4096x81x81, .f32⟩
  | .hbm, ⟨106, _⟩ => ⟨S4096x81x81, .f32⟩
  | .hbm, ⟨107, _⟩ => ⟨S4096x81x81, .f32⟩
  | .hbm, ⟨108, _⟩ => ⟨S4096x81x81, .f32⟩
  | .hbm, ⟨109, _⟩ => ⟨S4096x81x81, .f32⟩
  | .hbm, ⟨110, _⟩ => ⟨S4096x81x81, .f32⟩
  | .hbm, ⟨111, _⟩ => ⟨S4096x81x81, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_c : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_cst_5 : Ref sig .tc := ⟨.hbm, 13, rfl⟩
abbrev main_v3 : Ref sig .tc := ⟨.hbm, 14, rfl⟩
abbrev main_cst_6 : Ref sig .tc := ⟨.hbm, 15, rfl⟩
abbrev main_v4 : Ref sig .tc := ⟨.hbm, 16, rfl⟩
abbrev main_c_7 : Ref sig .tc := ⟨.hbm, 17, rfl⟩
abbrev main_cst_8 : Ref sig .tc := ⟨.hbm, 18, rfl⟩
abbrev main_cst_9 : Ref sig .tc := ⟨.hbm, 19, rfl⟩
abbrev main_cst_10 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_11 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_12 : Ref sig .tc := ⟨.hbm, 39, rfl⟩
abbrev main_v22 : Ref sig .tc := ⟨.hbm, 40, rfl⟩
abbrev main_c_13 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_14 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_15 : Ref sig .tc := ⟨.hbm, 85, rfl⟩
abbrev main_v65 : Ref sig .tc := ⟨.hbm, 86, rfl⟩
abbrev main_cst_16 : Ref sig .tc := ⟨.hbm, 87, rfl⟩
abbrev main_v66 : Ref sig .tc := ⟨.hbm, 88, rfl⟩
abbrev main_cst_17 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]
-- ==== Proof.Blocks.lean ====
/- One grid point of the kernel: the strip of entries it computes from its input blocks, and the list of the stores that
   leave the strip's pieces in the output block. -/
module

public import proofs.«01_k».proof.Proof.Gen.KernelIdeal.Skeleton
public import Idealize.ShloMosaic.Lib.Pipeline.ValueKit.Tiles

@[expose] public noncomputable section

namespace Cert.Wigner.Kernel

open Idealize.ShloMosaic Idealize.SL.Sem Cert.KernelIdeal Cert.KernelIdeal.Gen

variable {F : FTy → Type} [FloatOps F]

/-- The exponents of the cosine, of the sine, and the orders 0 to 8: rows of the table of exponents. -/
def cosExps (x5 : Vec F S3x81 .f32) : Vec F S1x81 .f32 :=
  View.ld x5 (Rect.unit (s := S3x81) ![0, 0] S1x81.size inb_S3x81_S1x81_0_0)

def sinExps (x5 : Vec F S3x81 .f32) : Vec F S1x81 .f32 :=
  View.ld x5 (Rect.unit (s := S3x81) ![1, 0] S1x81.size inb_S3x81_S1x81_1_0)

def orders (x5 : Vec F S3x81 .f32) : Vec F S1x9 .f32 :=
  View.ld x5 (Rect.unit (s := S3x81) ![2, 0] S1x9.size inb_S3x81_S1x9_2_0)

/-- The two tables that pick a cosine or a sine for each column of the strip. -/
def alphaPick (x4 : Vec F S2x18x3584 .bf16) : Vec F S1x18x3584 .bf16 :=
  View.ld x4 (Rect.unit (s := S2x18x3584) ![0, 0, 0] S1x18x3584.size inb_S2x18x3584_S1x18x3584_0_0_0)

def gammaPick (x4 : Vec F S2x18x3584 .bf16) : Vec F S1x18x3584 .bf16 :=
  View.ld x4 (Rect.unit (s := S2x18x3584) ![1, 0, 0] S1x18x3584.size inb_S2x18x3584_S1x18x3584_1_0_0)

/-- The whole of an input block, as the body loads it. -/
def angle (x : Vec F S128x1 .f32) : Vec F S128x1 .f32 :=
  View.ld x (Rect.unit (s := S128x1) ![0, 0] S128x1.size inb_S128x1_S128x1_0_0)

def coefs (x3 : Vec F S243x3584 .bf16) : Vec F S243x3584 .bf16 :=
  View.ld x3 (Rect.unit (s := S243x3584) ![0, 0] S243x3584.size inb_S243x3584_S243x3584_0_0)

theorem angle_eq (x : Vec F S128x1 .f32) : angle x = x :=
  View.ld_unit_zero (funext fun a => by match a with | ⟨0, _⟩ => rfl | ⟨1, _⟩ => rfl) _ x

theorem coefs_eq (x3 : Vec F S243x3584 .bf16) : coefs x3 = x3 :=
  View.ld_unit_zero (funext fun a => by match a with | ⟨0, _⟩ => rfl | ⟨1, _⟩ => rfl) _ x3

/-- The strip, from the six input blocks. -/
def strip (x0 x1 x2 : Vec F S128x1 .f32) (x3 : Vec F S243x3584 .bf16) (x4 : Vec F S2x18x3584 .bf16) (x5 : Vec F S3x81 .f32) :
    FVec F S128x1792 .f32 :=
  k0_pay11 (k0_pay8 x2) (k0_pay9 x1 (cosExps x5) (sinExps x5) x3) (orders x5) (k0_pay10 x0 (orders x5)) (alphaPick x4) (gammaPick x4)

/-- The blocks of degrees 0 and 1, as the stores write them. -/
def block0 (v : FVec F S128x1792 .f32) : FVec F S128x1x1 .f32 :=
  shapeCast S128x1x1 (extractStridedSlice S128x1 ![0, 0] v slices_S128x1792_o0_0_S128x1) shapeCasts_S128x1_S128x1x1

def block1 (v : FVec F S128x1792 .f32) : FVec F S128x3x3 .f32 :=
  shapeCast S128x3x3 (extractStridedSlice S128x9 ![0, 128] v slices_S128x1792_o0_128_S128x9) shapeCasts_S128x9_S128x3x3

/-- The stores to the output block, the last first. -/
def pieces (v : FVec F S128x1792 .f32) : List (View.Piece (Elt F) S128x81x81 .f32) :=
  [⟨Rect.unit (s := S128x81x81) ![0, 64, 64] S128x17x17.size inb_S128x81x81_S128x17x17_0_64_64, k0_pay7 v⟩,
   ⟨Rect.unit (s := S128x81x81) ![0, 49, 49] S128x15x15.size inb_S128x81x81_S128x15x15_0_49_49, k0_pay6 v⟩,
   ⟨Rect.unit (s := S128x81x81) ![0, 36, 36] S128x13x13.size inb_S128x81x81_S128x13x13_0_36_36, k0_pay5 v⟩,
   ⟨Rect.unit (s := S128x81x81) ![0, 25, 25] S128x11x11.size inb_S128x81x81_S128x11x11_0_25_25, k0_pay4 v⟩,
   ⟨Rect.unit (s := S128x81x81) ![0, 16, 16] S128x9x9.size inb_S128x81x81_S128x9x9_0_16_16, k0_pay3 v⟩,
   ⟨Rect.unit (s := S128x81x81) ![0, 9, 9] S128x7x7.size inb_S128x81x81_S128x7x7_0_9_9, k0_pay2 v⟩,
   ⟨Rect.unit (s := S128x81x81) ![0, 4, 4] S128x5x5.size inb_S128x81x81_S128x5x5_0_4_4, k0_pay1 v⟩,
   ⟨Rect.unit (s := S128x81x81) ![0, 1, 1] S128x3x3.size inb_S128x81x81_S128x3x3_0_1_1, block1 v⟩,
   ⟨Rect.unit (s := S128x81x81) ![0, 0, 0] S128x1x1.size inb_S128x81x81_S128x1x1_0_0_0, block0 v⟩,
   ⟨Rect.unit (s := S128x81x81) ![0, 0, 0] S128x81x81.size inb_S128x81x81_S128x81x81_0_0_0, k0_pay12 (F := F)⟩]

end Cert.Wigner.Kernel

end
-- ==== Proof.Stored.lean ====
/- What a grid point leaves in the output block: the pieces of the strip, laid one on the other. -/
module

public import proofs.«01_k».proof.Proof.Blocks
public import proofs.«01_k».proof.Proof.Gen.KernelIdeal.Value
public import Idealize.ShloMosaic.Lib.Pipeline.Value

@[expose] public noncomputable section

set_option maxRecDepth 16384

namespace Cert.Wigner.Kernel

open Idealize.ShloMosaic Idealize.ShloMosaic.TcCoe Idealize.SL.Sem Cert.KernelIdeal Cert.KernelIdeal.Gen

variable {F : FTy → Type} [FloatOps F]

/-- The output block holds the strip's pieces. -/
theorem stored (c : Dev nD) (i : grid0.Coords) (a1 : Memref sig .tc .vmem S128x1 .f32) (h1 : a1.IsWhole)
    (a2 : Memref sig .tc .vmem S128x1 .f32) (h2 : a2.IsWhole) (a3 : Memref sig .tc .vmem S128x1 .f32) (h3 : a3.IsWhole)
    (a4 : Memref sig .tc .vmem S243x3584 .bf16) (h4 : a4.IsWhole) (a5 : Memref sig .tc .vmem S2x18x3584 .bf16) (h5 : a5.IsWhole)
    (a6 : Memref sig .tc .vmem S3x81 .f32) (h6 : a6.IsWhole) (a7 : Memref sig .tc .vmem S128x81x81 .f32) (h7 : a7.IsWhole)
    (x0 x1 x2 : Vec F S128x1 .f32) (x3 : Vec F S243x3584 .bf16) (x4 : Vec F S2x18x3584 .bf16) (x5 : Vec F S3x81 .f32) :
    out0_A_6 c i a1 h1 a2 h2 a3 h3 a4 h4 a5 h5 a6 h6 a7 h7 x0 x1 x2 x3 x4 x5 = View.canon (pieces (strip (angle x0) (angle x1) (angle x2) (coefs x3) x4 x5)) := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  sl_unfold_words
  simp only [View.readAt_eq_ld, h1.read_unread, h2.read_unread, h3.read_unread, h4.read_unread, h5.read_unread, h6.read_unread]
  rfl

end Cert.Wigner.Kernel

end
-- ==== Proof.Index.lean ====
/- The index arithmetic of the two programs, on natural numbers. The 81 rows (and columns) of one matrix are the
   degrees `l = 0, …, 8` in turn, degree `l` in the rows `l², …, l² + 2l`, its row `l² + l + m` being order `m`.
   The kernel keeps the diagonal blocks row by row in a strip of 1792 columns. -/
module

public import Mathlib.Data.Nat.Basic

@[expose] public section

namespace Cert.Wigner

/-- The degree of row `i`. -/
def deg (i : Nat) : Nat :=
  if i < 1 then 0 else if i < 4 then 1 else if i < 9 then 2 else if i < 16 then 3 else if i < 25 then 4
  else if i < 36 then 5 else if i < 49 then 6 else if i < 64 then 7 else 8

/-- The row of order 0 in row `i`'s degree. -/
def ctr (i : Nat) : Nat := deg i * deg i + deg i

/-- The row of order `|m|`, where row `i` is of order `m`. -/
def posOf (i : Nat) : Nat := if i < ctr i then 2 * ctr i - i else i

/-- The row of order `-|m|`, where row `i` is of order `m`. -/
def negOf (i : Nat) : Nat := if i < ctr i then i else 2 * ctr i - i

/-- `|m|`, where row `i` is of order `m`. -/
def mu (i : Nat) : Nat := posOf i - ctr i

/-- Where the block of degree `l` begins in the strip. -/
def base (l : Nat) : Nat :=
  if l < 6 then 128 * l else if l = 6 then 768 else if l = 7 then 1024 else 1280

/-- The strip's column that keeps the entry `(i, j)`, two rows of one degree. -/
def colOf (i j : Nat) : Nat :=
  base (deg i) + (i - deg i * deg i) * (2 * deg i + 1) + (j - deg i * deg i)

/-- `f` holds at every pair of rows of degree `l`. -/
def pairsOf (l : Nat) (f : Nat → Nat → Bool) : Bool :=
  (List.range (2 * l + 1)).all fun r => (List.range (2 * l + 1)).all fun c => f (l * l + r) (l * l + c)

/-- `f` holds at every pair of rows of one degree, from its degrees below 6 and each of the others. -/
def allPairs (f : Nat → Nat → Bool) : Prop :=
  ((List.range 6).all fun l => pairsOf l f) = true ∧ pairsOf 6 f = true ∧ pairsOf 7 f = true ∧ pairsOf 8 f = true

end Cert.Wigner

end
-- ==== Proof.IndexFacts.lean ====
/- Facts of the index arithmetic: each is checked at the 81 rows, or at the 969 pairs of rows of one degree. -/
module

public import proofs.«01_k».proof.Proof.Index
public import Mathlib.Tactic.Linarith

@[expose] public section

namespace Cert.Wigner

/-- Row `i` lies among the rows of its degree, which is below 9. -/
theorem deg_range (i : Fin 81) : deg i < 9 ∧ deg i * deg i ≤ i.val ∧ i.val < deg i * deg i + (2 * deg i + 1) := by
  revert i; decide +kernel

/-- What is checked at every pair of rows of one degree holds at each such pair. -/
theorem allPairs_apply {f : Nat → Nat → Bool} (h : allPairs f) (i j : Fin 81) (e : deg i = deg j) : f i j = true := by
  obtain ⟨hl, hi, hi'⟩ := deg_range i
  obtain ⟨-, hj, hj'⟩ := deg_range j
  rw [← e] at hj hj'
  have key : ∀ l, deg i = l → pairsOf l f = true → f i j = true := by
    intro l hl hp
    unfold pairsOf at hp
    rw [List.all_eq_true] at hp
    have h1 := hp (i.val - l * l) (List.mem_range.2 (by subst hl; omega))
    rw [List.all_eq_true] at h1
    have h2 := h1 (j.val - l * l) (List.mem_range.2 (by subst hl; omega))
    rwa [show l * l + (i.val - l * l) = i.val by subst hl; omega,
      show l * l + (j.val - l * l) = j.val by subst hl; omega] at h2
  obtain ⟨h0, h6, h7, h8⟩ := h
  by_cases h5 : deg i < 6
  · rw [List.all_eq_true] at h0
    exact key _ rfl (h0 _ (List.mem_range.2 h5))
  · have : deg i = 6 ∨ deg i = 7 ∨ deg i = 8 := by omega
    rcases this with h | h | h
    · exact key 6 h h6
    · exact key 7 h h7
    · exact key 8 h h8

/-- The degree of the block that the strip's column `e` lies in. -/
def degCol (e : Nat) : Nat := if e < 768 then e / 128 else if e < 1024 then 6 else if e < 1280 then 7 else 8

/-- The column of `(i, j)` lies in the strip, in the block of its degree, at a position that gives back `i` and `j`. -/
def decodes (i j : Nat) : Bool :=
  let e := colOf i j
  let l := degCol e
  Nat.blt e 1792 && (l == deg i) && (l * l + (e - base l) / (2 * l + 1) == i) && (l * l + (e - base l) % (2 * l + 1) == j)

theorem decodes_all : allPairs decodes := by unfold allPairs; decide +kernel

theorem colOf_lt (i j : Fin 81) (e : deg i = deg j) : colOf i j < 1792 := by
  have h := allPairs_apply decodes_all i j e
  simp only [decodes, Bool.and_eq_true, Nat.blt_eq] at h
  exact h.1.1.1

/-- Two pairs of rows, each of one degree, that have the same column are the same pair. -/
theorem colOf_inj (i j i' j' : Fin 81) (e : deg i = deg j) (e' : deg i' = deg j') (h : colOf i j = colOf i' j') :
    i = i' ∧ j = j' := by
  have h1 := allPairs_apply decodes_all i j e
  have h2 := allPairs_apply decodes_all i' j' e'
  simp only [decodes, Bool.and_eq_true, beq_iff_eq] at h1 h2
  rw [← h] at h2
  exact ⟨Fin.ext (h1.1.2.symm.trans h2.1.2), Fin.ext (h1.2.symm.trans h2.2)⟩

/-- The rows of order `|m|` and `-|m|` of a row of order `m`. -/
theorem row_facts (i : Fin 81) : posOf i < 81 ∧ negOf i < 81 ∧ deg (posOf i) = deg i ∧ deg (negOf i) = deg i ∧
    mu (posOf i) = mu i ∧ mu (negOf i) = mu i ∧ ctr (posOf i) ≤ posOf i ∧ (mu i = 0 → ctr (negOf i) ≤ negOf i) ∧
    (mu i ≠ 0 → negOf i < ctr (negOf i)) ∧ mu i < 9 ∧ (mu i = 0 → posOf i = i.val ∧ negOf i = i.val ∧ i.val = ctr i) ∧
    (mu i ≠ 0 → posOf i ≠ negOf i ∧ i.val ≠ ctr i) := by
  revert i; decide +kernel

/-- The row of order `|m|`. -/
def pos (i : Fin 81) : Fin 81 := ⟨posOf i, (row_facts i).1⟩

/-- The row of order `-|m|`. -/
def neg (i : Fin 81) : Fin 81 := ⟨negOf i, (row_facts i).2.1⟩

end Cert.Wigner

end
-- ==== Proof.Words.lean ====
/- Words of floats as real numbers: a word whose exponent field is not all ones denotes a real number, and flipping its
   sign bit negates it. The few words whose value matters. -/
module

public import Idealize.ShloMosaic.Lib.Pointwise

@[expose] public noncomputable section

namespace Cert.Wigner

open Idealize.ShloMosaic

/-- The real number a binary32 word denotes (0 where it denotes none). -/
def rv (w : BitVec 32) : ℝ := (Ideal.ofBits .f32 w).toReal

/-- A word whose exponent field is below 255 denotes its real number. -/
theorem ofBits_eq_rv (w : BitVec 32) (h : w.toNat / 2 ^ 23 % 256 < 255) : Ideal.ofBits .f32 w = ((rv w : ℝ) : EReal) := by
  have hx : (w.extractLsb' 23 8).toNat = w.toNat / 2 ^ 23 % 256 := by
    rw [BitVec.extractLsb'_toNat, Nat.shiftRight_eq_div_pow]
  have : ∃ r : ℝ, Ideal.ofBits .f32 w = (r : EReal) := by
    show ∃ r : ℝ, Ideal.ieee 8 23 w = (r : EReal)
    unfold Ideal.ieee
    dsimp only
    rw [if_neg (by rw [hx]; omega)]
    split
    · exact ⟨_, rfl⟩
    · exact ⟨_, rfl⟩
  obtain ⟨r, hr⟩ := this
  unfold rv
  rw [hr, EReal.toReal_coe]

theorem word_zero : Ideal.ofBits .f32 0x00000000#32 = ((0 : ℝ) : EReal) := by
  simp [Ideal.ofBits, Ideal.ieee, -EReal.coe_mul]
theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem half_zero : Ideal.ofBits .bf16 0x0000#16 = ((0 : ℝ) : EReal) := by
  simp [Ideal.ofBits, Ideal.ieee, -EReal.coe_mul]
theorem half_one : Ideal.ofBits .bf16 0x3F80#16 = ((1 : ℝ) : EReal) := by
  simp [Ideal.ofBits, Ideal.ieee, -EReal.coe_mul]; norm_num
theorem half_neg_one : Ideal.ofBits .bf16 0xBF80#16 = ((-1 : ℝ) : EReal) := by
  simp [Ideal.ofBits, Ideal.ieee, -EReal.coe_mul]; norm_num

/-- The floor of the kernel's logarithms: a positive number below one part in 10^12. -/
theorem word_floor : Ideal.ofBits .f32 0x0DA24260#32 = ((10633824 / 2 ^ 123 : ℝ) : EReal) := by
  simp [Ideal.ofBits, Ideal.ieee, -EReal.coe_mul]; norm_num [zpow_neg]

/-- A sum of real numbers read among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- The word `w` with its sign bit set denotes the opposite number, for the nine words of the orders. -/
theorem rv_neg (w : BitVec 32) (hw : w.toNat < 2 ^ 31) (h : w.toNat / 2 ^ 23 % 256 < 255) (v : BitVec 32)
    (hv : v.toNat = w.toNat + 2 ^ 31) : rv v = -rv w := by
  have e0 : ∀ u : BitVec 32, (u.extractLsb' 31 1 == 1#1) = decide (2 ^ 31 ≤ u.toNat) := by
    intro u
    rw [Bool.eq_iff_iff, beq_iff_eq, decide_eq_true_iff, ← BitVec.toNat_inj, BitVec.extractLsb'_toNat, Nat.shiftRight_eq_div_pow]
    have := u.isLt
    show _ ↔ _
    simp only [BitVec.toNat_ofNat]
    omega
  have e1 : v.extractLsb' 23 8 = w.extractLsb' 23 8 := by
    rw [← BitVec.toNat_inj, BitVec.extractLsb'_toNat, BitVec.extractLsb'_toNat, Nat.shiftRight_eq_div_pow, Nat.shiftRight_eq_div_pow, hv]
    omega
  have e2 : v.extractLsb' 0 23 = w.extractLsb' 0 23 := by
    rw [← BitVec.toNat_inj, BitVec.extractLsb'_toNat, BitVec.extractLsb'_toNat, Nat.shiftRight_eq_div_pow, Nat.shiftRight_eq_div_pow, hv]
    omega
  have hx : (w.extractLsb' 23 8).toNat = w.toNat / 2 ^ 23 % 256 := by
    rw [BitVec.extractLsb'_toNat, Nat.shiftRight_eq_div_pow]
  have d1 : decide (2 ^ 31 ≤ v.toNat) = true := decide_eq_true (by omega)
  have d2 : decide (2 ^ 31 ≤ w.toNat) = false := decide_eq_false (by omega)
  unfold rv
  show (Ideal.ieee 8 23 v).toReal = -(Ideal.ieee 8 23 w).toReal
  unfold Ideal.ieee
  dsimp only
  have hne : ¬ ((w.extractLsb' 23 8).toNat = 2 ^ 8 - 1) := by rw [hx]; omega
  rw [show (8 + 23 : Nat) = 31 from rfl, e0, e0, d1, d2, e1, e2, if_neg hne, if_neg hne]
  by_cases hz : (w.extractLsb' 23 8).toNat = 0
  · rw [if_pos hz, if_pos hz, EReal.toReal_coe, EReal.toReal_coe]; simp
  · rw [if_neg hz, if_neg hz, EReal.toReal_coe, EReal.toReal_coe]; simp; ring

end Cert.Wigner

end
-- ==== Proof.Laid.lean ====
/- The output block read entry by entry: the strip's column of `(i, j)` where the two rows are of one degree, and zero
   elsewhere. -/
module

public import proofs.«01_k».proof.Proof.Blocks
public import proofs.«01_k».proof.Proof.IndexFacts
public import proofs.«01_k».proof.Proof.Words
public import Idealize.ShloMosaic.Lib.Pointwise

@[expose] public noncomputable section

set_option maxRecDepth 16384

namespace Cert.Wigner.Kernel

open Idealize.ShloMosaic Idealize.SL.Sem Cert.KernelIdeal Cert.KernelIdeal.Gen

/-- The rows of degree `l`. -/
theorem deg_iff (i : Fin 81) (l : Fin 9) : deg i = l.val ↔ l.val * l.val ≤ i.val ∧ i.val < l.val * l.val + (2 * l.val + 1) := by
  revert i l; decide +kernel

/-- One store: a square of side `n` at row and column `o`, which holds the strip from column `c` on. -/
theorem canon_square (l : Fin 9) (o n c : Nat) (ho : o = l.val * l.val) (hn : n = 2 * l.val + 1) (hc : c = base l.val)
    (inb : ∀ a, (![0, o, o] : Fin 3 → Nat) a + (⟨3, ![128, n, n]⟩ : Shape).size a ≤ S128x81x81.size a)
    (w : (⟨3, ![128, n, n]⟩ : Shape).Idx → Elt Ideal .f32) (L : List (View.Piece (Elt Ideal) S128x81x81 .f32)) (v : FVec Ideal S128x1792 .f32)
    (hw : ∀ (b : Fin 128) (p q : Fin n) (h : c + (p.val * n + q.val) < 1792), w (ix3 b p q) = v (ix2 b ⟨c + (p.val * n + q.val), h⟩))
    (b : Fin 128) (i j : Fin 81) :
    View.canon ((⟨Rect.unit (s := S128x81x81) ![0, o, o] (⟨3, ![128, n, n]⟩ : Shape).size inb, w⟩ : View.Piece (Elt Ideal) S128x81x81 .f32) :: L) (ix3 b i j)
      = if h : deg i = l.val ∧ deg j = l.val then v (ix2 b ⟨colOf i j, colOf_lt i j (h.1.trans h.2.symm)⟩) else View.canon L (ix3 b i j) := by
  by_cases h : deg i = l.val ∧ deg j = l.val
  · obtain ⟨hi, hi'⟩ := (deg_iff i l).1 h.1
    obtain ⟨hj, hj'⟩ := (deg_iff j l).1 h.2
    rw [dif_pos h]
    have hcol : colOf i j = c + ((i.val - o) * n + (j.val - o)) := by
      unfold colOf
      rw [h.1, ho, hn, hc]
      omega
    have e : (Rect.unit (s := S128x81x81) ![0, o, o] (⟨3, ![128, n, n]⟩ : Shape).size inb).emb
        (ix3 b (⟨i.val - o, by omega⟩ : Fin n) (⟨j.val - o, by omega⟩ : Fin n)) = ix3 b i j := by
      funext a
      apply Fin.ext
      rw [Rect.emb_apply]
      match a with
      | ⟨0, _⟩ => show 0 + 1 * b.val = b.val; omega
      | ⟨1, _⟩ => show o + 1 * (i.val - o) = i.val; omega
      | ⟨2, _⟩ => show o + 1 * (j.val - o) = j.val; omega
    rw [← e, View.canon_cons_emb, hw b _ _ (by show c + ((i.val - o) * n + (j.val - o)) < 1792; rw [← hcol]; exact colOf_lt i j (h.1.trans h.2.symm))]
    exact congrArg v (congrArg (ix2 b) (Fin.ext hcol.symm))
  · rw [dif_neg h]
    refine View.canon_cons_of_not_mem _ L fun hm => h ?_
    have hm' := (Rect.mem_set_unit (inb := inb)).1 hm
    have m1 := hm' 1
    have m2 := hm' 2
    have m1' : o ≤ i.val ∧ i.val < o + n := m1
    have m2' : o ≤ j.val ∧ j.val < o + n := m2
    exact ⟨(deg_iff i l).2 (by omega), (deg_iff j l).2 (by omega)⟩

theorem block0_at (v : FVec Ideal S128x1792 .f32) (b : Fin 128) (p q : Fin 1) (h : 0 + (p.val * 1 + q.val) < 1792) : block0 v (ix3 b p q) = v (ix2 b ⟨0 + (p.val * 1 + q.val), h⟩) := by
  have hp := p.isLt
  have hq := q.isLt
  unfold block0
  rw [Idealize.ShloMosaic.shapeCast_apply _ _ (ix3 b p q) (ix2 b (⟨p.val * 1 + q.val, by omega⟩ : Fin 1))
    ((Shape.rowMajor_val_two _).trans (by rw [show (S128x1x1.rowMajor (ix3 b p q)).val = _ from Shape.rowMajor_val_three _]; show b.val * 1 + (p.val * 1 + q.val) = (b.val * 1 + p.val) * 1 + q.val; omega))]
  exact congrArg v (funext fun a => Fin.ext (by
    match a with
    | ⟨0, _⟩ => show 0 + b.val = b.val; omega
    | ⟨1, _⟩ => rfl))

theorem block1_at (v : FVec Ideal S128x1792 .f32) (b : Fin 128) (p q : Fin 3) (h : 128 + (p.val * 3 + q.val) < 1792) : block1 v (ix3 b p q) = v (ix2 b ⟨128 + (p.val * 3 + q.val), h⟩) := by
  pointwise [block1]
theorem block2_at (v : FVec Ideal S128x1792 .f32) (b : Fin 128) (p q : Fin 5) (h : 256 + (p.val * 5 + q.val) < 1792) : k0_pay1 v (ix3 b p q) = v (ix2 b ⟨256 + (p.val * 5 + q.val), h⟩) := by
  pointwise [k0_pay1]
theorem block3_at (v : FVec Ideal S128x1792 .f32) (b : Fin 128) (p q : Fin 7) (h : 384 + (p.val * 7 + q.val) < 1792) : k0_pay2 v (ix3 b p q) = v (ix2 b ⟨384 + (p.val * 7 + q.val), h⟩) := by
  pointwise [k0_pay2]
theorem block4_at (v : FVec Ideal S128x1792 .f32) (b : Fin 128) (p q : Fin 9) (h : 512 + (p.val * 9 + q.val) < 1792) : k0_pay3 v (ix3 b p q) = v (ix2 b ⟨512 + (p.val * 9 + q.val), h⟩) := by
  pointwise [k0_pay3]
theorem block5_at (v : FVec Ideal S128x1792 .f32) (b : Fin 128) (p q : Fin 11) (h : 640 + (p.val * 11 + q.val) < 1792) : k0_pay4 v (ix3 b p q) = v (ix2 b ⟨640 + (p.val * 11 + q.val), h⟩) := by
  pointwise [k0_pay4]
theorem block6_at (v : FVec Ideal S128x1792 .f32) (b : Fin 128) (p q : Fin 13) (h : 768 + (p.val * 13 + q.val) < 1792) : k0_pay5 v (ix3 b p q) = v (ix2 b ⟨768 + (p.val * 13 + q.val), h⟩) := by
  pointwise [k0_pay5]
theorem block7_at (v : FVec Ideal S128x1792 .f32) (b : Fin 128) (p q : Fin 15) (h : 1024 + (p.val * 15 + q.val) < 1792) : k0_pay6 v (ix3 b p q) = v (ix2 b ⟨1024 + (p.val * 15 + q.val), h⟩) := by
  pointwise [k0_pay6]
theorem block8_at (v : FVec Ideal S128x1792 .f32) (b : Fin 128) (p q : Fin 17) (h : 1280 + (p.val * 17 + q.val) < 1792) : k0_pay7 v (ix3 b p q) = v (ix2 b ⟨1280 + (p.val * 17 + q.val), h⟩) := by
  pointwise [k0_pay7]

/-- Under all the squares, zero. -/
theorem zero_at (b : Fin 128) (i j : Fin 81) :
    View.canon ([⟨Rect.unit (s := S128x81x81) ![0, 0, 0] S128x81x81.size inb_S128x81x81_S128x81x81_0_0_0, k0_pay12 (F := Ideal)⟩] : List (View.Piece (Elt Ideal) S128x81x81 .f32)) (ix3 b i j)
      = ((0 : ℝ) : EReal) := by
  rw [View.canon_cons_unit_zero (funext fun a => by match a with | ⟨0, _⟩ => rfl | ⟨1, _⟩ => rfl | ⟨2, _⟩ => rfl)]
  exact word_zero

/-- The output block. -/
theorem laid (v : FVec Ideal S128x1792 .f32) (b : Fin 128) (i j : Fin 81) :
    View.canon (pieces (F := Ideal) v) (ix3 b i j) = if h : deg i = deg j then v (ix2 b ⟨colOf i j, colOf_lt i j h⟩) else ((0 : ℝ) : EReal) := by
  unfold pieces
  rw [canon_square 8 64 17 1280 rfl rfl rfl _ _ _ v (block8_at v), canon_square 7 49 15 1024 rfl rfl rfl _ _ _ v (block7_at v),
    canon_square 6 36 13 768 rfl rfl rfl _ _ _ v (block6_at v), canon_square 5 25 11 640 rfl rfl rfl _ _ _ v (block5_at v),
    canon_square 4 16 9 512 rfl rfl rfl _ _ _ v (block4_at v), canon_square 3 9 7 384 rfl rfl rfl _ _ _ v (block3_at v),
    canon_square 2 4 5 256 rfl rfl rfl _ _ _ v (block2_at v), canon_square 1 1 3 128 rfl rfl rfl _ _ _ v (block1_at v),
    canon_square 0 0 1 0 rfl rfl rfl _ _ _ v (block0_at v), zero_at]
  have hd := (deg_range i).1
  by_cases h : deg i = deg j
  · rw [dif_pos h]
    have h8 : ¬ (deg i = (8 : Fin 9).val ∧ deg j = (8 : Fin 9).val) → deg i < 8 := fun hn => by
      have : deg i ≠ 8 := fun e => hn ⟨e, h ▸ e⟩
      omega
    split_ifs with c8 c7 c6 c5 c4 c3 c2 c1 c0 <;> try rfl
    exfalso
    have := h8 c8
    have a7 : deg i ≠ 7 := fun e => c7 ⟨e, h ▸ e⟩
    have a6 : deg i ≠ 6 := fun e => c6 ⟨e, h ▸ e⟩
    have a5 : deg i ≠ 5 := fun e => c5 ⟨e, h ▸ e⟩
    have a4 : deg i ≠ 4 := fun e => c4 ⟨e, h ▸ e⟩
    have a3 : deg i ≠ 3 := fun e => c3 ⟨e, h ▸ e⟩
    have a2 : deg i ≠ 2 := fun e => c2 ⟨e, h ▸ e⟩
    have a1 : deg i ≠ 1 := fun e => c1 ⟨e, h ▸ e⟩
    have a0 : deg i ≠ 0 := fun e => c0 ⟨e, h ▸ e⟩
    omega
  · rw [dif_neg h]
    have no : ∀ l : Fin 9, ¬ (deg i = l.val ∧ deg j = l.val) := fun l q => h (q.1.trans q.2.symm)
    rw [dif_neg (no 8), dif_neg (no 7), dif_neg (no 6), dif_neg (no 5), dif_neg (no 4), dif_neg (no 3), dif_neg (no 2), dif_neg (no 1), dif_neg (no 0)]

end Cert.Wigner.Kernel

end
-- ==== Proof.HostStages.lean ====
/- The stages by which the kernel's host builds its coefficient table: the small-d coefficients summed into a strip, the
   four columns each strip column reads, the two combinations of them, side by side, and the table of three copies. The
   buffers that the kernel's call finds are theirs. -/
module

public import proofs.«01_k».proof.Proof.Gen.KernelIdeal.Frame.Runs
public import Idealize.ShloMosaic.Lib.StableHlo.RunRead
public import Idealize.ShloMosaic.Lib.Pointwise
public import Idealize.ShloMosaic.Lib.Routing.OpsPair

@[expose] public noncomputable section

set_option maxRecDepth 16384

namespace Cert.Wigner.Host

open Idealize.ShloMosaic Cert.KernelIdeal Cert.KernelIdeal.Gen

/-- The rows, and the columns, of the coefficients. -/
def rowPlaces : IVec S2685x1 32 :=
  broadcastInDim S2685x1 ![0] bcast_S2685_S2685x1_0
    (select (constantI S2685 1 0#1)
      (addi (fun i => lit1 (S2685.rowMajor i)) (broadcastInDim S2685 ![] bcast_S_S2685 (constantI S_ 32 81#32)))
      fun i => lit1 (S2685.rowMajor i))

def colPlaces : IVec S2685x1 32 :=
  broadcastInDim S2685x1 ![0] bcast_S2685_S2685x1_0
    (select (constantI S2685 1 0#1)
      (addi (fun i => lit2 (S2685.rowMajor i)) (broadcastInDim S2685 ![] bcast_S_S2685 (constantI S_ 32 1792#32)))
      fun i => lit2 (S2685.rowMajor i))

/-- The two side by side. -/
def places : IVec S2685x2 32 :=
  concatenate S2685x2 1 [⟨S2685x1, rowPlaces⟩, ⟨S2685x1, colPlaces⟩] concatenates_S2685x1_S2685x1_S2685x2_d1

/-- The coefficients of the small-d matrices, one row per monomial, one column per entry. -/
def coeffs : FVec Ideal S81x1792 .f32 :=
  Host.scatterAdd scatter_S81x1792_S2685x2_S2685_n_01_01_1
    (broadcastInDim S81x1792 ![] bcast_S_S81x1792 (constant S_ FTy.f32 0x00000000#32)) places
    fun i => FloatOps.ofBits .f32 (lit0 (S2685.rowMajor i))

/-- 1/sqrt 2 where the flag is set, 1 elsewhere. -/
def root (l : Fin 1792 → BitVec 1) : FVec Ideal S1792 .f32 :=
  select (fun i => l (S1792.rowMajor i))
    (broadcastInDim S1792 ![] bcast_S_S1792
      (Host.divf (constant S_ FTy.f32 0x3F800000#32) (Host.sqrt (constant S_ FTy.f32 0x40000000#32))))
    (broadcastInDim S1792 ![] bcast_S_S1792 (id (constant S_ FTy.f32 0x3F800000#32)))

/-- The factor of each column. -/
def factor : FVec Ideal S1792 .f32 :=
  mulf (mulf (broadcastInDim S1792 ![] bcast_S_S1792 (constant S_ FTy.f32 0x3F000000#32)) (root lit3)) (root lit4)

/-- The columns of the coefficients named by a table. -/
def taken (l : Fin 1792 → BitVec 32) : FVec Ideal S81x1792 .f32 :=
  Host.gather gather_S81x1792_S1792x1_S81x1792_0_1_n_n_1_1_811 coeffs
    (broadcastInDim S1792x1 ![0] bcast_S1792_S1792x1_0
      (select (constantI S1792 1 0#1)
        (addi (fun i => l (S1792.rowMajor i)) (broadcastInDim S1792 ![] bcast_S_S1792 (constantI S_ 32 1792#32)))
        fun i => l (S1792.rowMajor i)))

/-- A row of signs, times the columns named by a table. -/
def signed (s l : Fin 1792 → BitVec 32) : FVec Ideal S81x1792 .f32 :=
  mulf (broadcastInDim S81x1792 ![0, 1] bcast_S1x1792_S81x1792_0_1
      (broadcastInDim S1x1792 ![1] bcast_S1792_S1x1792_1 fun i => FloatOps.ofBits .f32 (s (S1792.rowMajor i)))) (taken l)

/-- The first combination. -/
def combX : FVec Ideal S81x1792 .f32 :=
  mulf (broadcastInDim S81x1792 ![0, 1] bcast_S1x1792_S81x1792_0_1 (broadcastInDim S1x1792 ![1] bcast_S1792_S1x1792_1 factor))
    (addf (addf (addf (signed lit9 lit5) (signed lit10 lit6)) (signed lit11 lit7)) (signed lit12 lit8))

/-- The second combination. -/
def combY : FVec Ideal S81x1792 .f32 :=
  mulf (broadcastInDim S81x1792 ![0, 1] bcast_S1x1792_S81x1792_0_1 (broadcastInDim S1x1792 ![1] bcast_S1792_S1x1792_1 factor))
    (addf (subf (subf (signed lit9 lit5) (signed lit10 lit6)) (signed lit11 lit7)) (signed lit12 lit8))

/-- Both, side by side. -/
def both : FVec Ideal S81x3584 .f32 :=
  concatenate S81x3584 1 [⟨S81x1792, combX⟩, ⟨S81x1792, combY⟩] concatenates_S81x1792_S81x1792_S81x3584_d1

/-- Their rounding, and what the rounding leaves. -/
def high : FVec Ideal S81x3584 .bf16 := truncf .bf16 both bitsLt_bf16_f32

def low : FVec Ideal S81x3584 .bf16 := truncf .bf16 (subf both (extf .f32 high bitsLt_bf16_f32)) bitsLt_bf16_f32

/-- The table of three copies. -/
def table : FVec Ideal S243x3584 .bf16 :=
  concatenate S243x3584 0 [⟨S81x3584, high⟩, ⟨S81x3584, low⟩, ⟨S81x3584, high⟩] concatenates_S81x3584_S81x3584_S81x3584_S243x3584_d0

/-! The buffers after a number of the host's operations, each stretch from what the one before leaves. -/

variable (W : Valuation τ sig (Elt Ideal))

/-- What the first `n` operations leave is what operations `i, …, n - 1` make of what the first `i` leave. -/
theorem upto_from (ops : List (HloOp τ sig (Elt Ideal))) (i n : Nat) (h : i ≤ n) :
    StableHlo.upto ops W n = StableHlo.after ((ops.take n).drop i) (StableHlo.upto ops W i) := by
  have key : ∀ (a b : List (HloOp τ sig (Elt Ideal))) (X : Valuation τ sig (Elt Ideal)),
      StableHlo.after (a ++ b) X = StableHlo.after b (StableHlo.after a X) := by
    intro a
    induction a with
    | nil => intro b X; rfl
    | cons o a ih => intro b X; exact ih b _
  unfold StableHlo.upto
  conv_lhs => rw [← List.take_append_drop i (ops.take n)]
  rw [key, List.take_take, Nat.min_eq_left h]

set_option maxHeartbeats 4000000

/-- The host's operations. -/
abbrev ops : List (HloOp τ sig (Elt Ideal)) := hostOps0

theorem at_places : StableHlo.upto ops W 36 (Proc.devRef .tc main_call0_v10) = rowPlaces ∧
    StableHlo.upto ops W 36 (Proc.devRef .tc main_call0_v11) = colPlaces := by
  constructor
  · after_reads_simp
    rfl
  · after_reads_simp
    rfl

/-- The numbers `u` added into `z` at the rows `a` and columns `b`. -/
def summed (z : FVec Ideal S81x1792 .f32) (a b : IVec S2685x1 32) (u : FVec Ideal S2685 .f32) : FVec Ideal S81x1792 .f32 :=
  Host.scatterAdd scatter_S81x1792_S2685x2_S2685_n_01_01_1 z
    (concatenate S2685x2 1 [⟨S2685x1, a⟩, ⟨S2685x1, b⟩] concatenates_S2685x1_S2685x1_S2685x2_d1) u

theorem at_coeffs : StableHlo.upto ops W 38 (Proc.devRef .tc main_call0_v13) = coeffs := by
  have step : ∀ X : Valuation τ sig (Elt Ideal), X (Proc.devRef .tc main_call0_v10) = rowPlaces → X (Proc.devRef .tc main_call0_v11) = colPlaces →
      X (Proc.devRef .tc main_call0_v3) = broadcastInDim S81x1792 ![] bcast_S_S81x1792 (constant (F := Ideal) S_ FTy.f32 0x00000000#32) →
      X (Proc.devRef .tc main_call0_cst) = (fun i => FloatOps.ofBits (F := Ideal) .f32 (lit0 (S2685.rowMajor i))) →
      StableHlo.after ((ops.take 38).drop 36) X (Proc.devRef .tc main_call0_v13) = coeffs := by
    intro X h1 h2 h3 h4
    have e : StableHlo.after ((ops.take 38).drop 36) X (Proc.devRef .tc main_call0_v13) =
        summed (X (Proc.devRef .tc main_call0_v3)) (X (Proc.devRef .tc main_call0_v10)) (X (Proc.devRef .tc main_call0_v11))
          (X (Proc.devRef .tc main_call0_cst)) := by
      after_reads_simp
      rfl
    rw [e, h1, h2, h3, h4]
    rfl
  rw [upto_from W ops 36 38 (by decide)]
  refine step _ (at_places W).1 (at_places W).2 ?_ ?_
  · after_reads_simp
    rfl
  · after_reads_simp
    rfl

theorem at_factor : StableHlo.upto ops W 56 (Proc.devRef .tc main_call0_v20) = factor := by
  after_reads_simp
  rfl

/-- The columns taken. -/
theorem at_taken : StableHlo.upto ops W 80 (Proc.devRef .tc main_call0_v25) = taken lit5 ∧ StableHlo.upto ops W 80 (Proc.devRef .tc main_call0_v30) = taken lit6 ∧
    StableHlo.upto ops W 80 (Proc.devRef .tc main_call0_v35) = taken lit7 ∧ StableHlo.upto ops W 80 (Proc.devRef .tc main_call0_v40) = taken lit8 := by
  have h := at_coeffs W
  rw [upto_from W ops 38 80 (by decide)]
  generalize hX : StableHlo.upto ops W 38 = X at h ⊢
  have c5 : X (Proc.devRef .tc main_call0_c_5) = (fun i => lit5 (S1792.rowMajor i)) := by rw [← hX]; after_reads_simp; rfl
  have c6 : X (Proc.devRef .tc main_call0_c_6) = constantI S1792 1 0#1 := by rw [← hX]; after_reads_simp; rfl
  have c7 : X (Proc.devRef .tc main_call0_c_7) = (fun i => lit6 (S1792.rowMajor i)) := by rw [← hX]; after_reads_simp; rfl
  have c8 : X (Proc.devRef .tc main_call0_c_8) = constantI S1792 1 0#1 := by rw [← hX]; after_reads_simp; rfl
  have c9 : X (Proc.devRef .tc main_call0_c_9) = (fun i => lit7 (S1792.rowMajor i)) := by rw [← hX]; after_reads_simp; rfl
  have c10 : X (Proc.devRef .tc main_call0_c_10) = constantI S1792 1 0#1 := by rw [← hX]; after_reads_simp; rfl
  have c11 : X (Proc.devRef .tc main_call0_c_11) = (fun i => lit8 (S1792.rowMajor i)) := by rw [← hX]; after_reads_simp; rfl
  have c12 : X (Proc.devRef .tc main_call0_c_12) = constantI S1792 1 0#1 := by rw [← hX]; after_reads_simp; rfl
  clear hX
  refine ⟨?_, ?_, ?_, ?_⟩
  · after_reads_simp
    rw [h, c5, c6]
    rfl
  · after_reads_simp
    rw [h, c7, c8]
    rfl
  · after_reads_simp
    rw [h, c9, c10]
    rfl
  · after_reads_simp
    rw [h, c11, c12]
    rfl

/-- The two combinations. -/
theorem at_combs : StableHlo.upto ops W 116 (Proc.devRef .tc main_call0_v58) = combX ∧ StableHlo.upto ops W 116 (Proc.devRef .tc main_call0_v76) = combY := by
  obtain ⟨h1, h2, h3, h4⟩ := at_taken W
  have f : StableHlo.upto ops W 80 (Proc.devRef .tc main_call0_v20) = factor := by
    rw [upto_from W ops 56 80 (by decide)]
    have h := at_factor W
    generalize StableHlo.upto ops W 56 = X at h ⊢
    after_reads_simp
    exact h
  rw [upto_from W ops 80 116 (by decide)]
  generalize hX : StableHlo.upto ops W 80 = X at h1 h2 h3 h4 f ⊢
  have s1 : X (Proc.devRef .tc main_call0_cst_13) = (fun i => FloatOps.ofBits (F := Ideal) .f32 (lit9 (S1792.rowMajor i))) := by rw [← hX]; after_reads_simp; rfl
  have s2 : X (Proc.devRef .tc main_call0_cst_14) = (fun i => FloatOps.ofBits (F := Ideal) .f32 (lit10 (S1792.rowMajor i))) := by rw [← hX]; after_reads_simp; rfl
  have s3 : X (Proc.devRef .tc main_call0_cst_15) = (fun i => FloatOps.ofBits (F := Ideal) .f32 (lit11 (S1792.rowMajor i))) := by rw [← hX]; after_reads_simp; rfl
  have s4 : X (Proc.devRef .tc main_call0_cst_16) = (fun i => FloatOps.ofBits (F := Ideal) .f32 (lit12 (S1792.rowMajor i))) := by rw [← hX]; after_reads_simp; rfl
  clear hX
  constructor
  · after_reads_simp
    rw [h1, h2, h3, h4, f, s1, s2, s3, s4]
    rfl
  · after_reads_simp
    rw [h1, h2, h3, h4, f, s1, s2, s3, s4]
    rfl

/-- The two side by side. -/
theorem at_both : StableHlo.upto ops W 117 (Proc.devRef .tc main_call0_v77) = both := by
  obtain ⟨h1, h2⟩ := at_combs W
  rw [upto_from W ops 116 117 (by decide)]
  generalize StableHlo.upto ops W 116 = X at h1 h2 ⊢
  have e : StableHlo.after ((ops.take 117).drop 116) X (Proc.devRef .tc main_call0_v77) =
      concatenate S81x3584 1 [⟨S81x1792, (X (Proc.devRef .tc main_call0_v58) : FVec Ideal S81x1792 .f32)⟩, ⟨S81x1792, (X (Proc.devRef .tc main_call0_v76) : FVec Ideal S81x1792 .f32)⟩] concatenates_S81x1792_S81x1792_S81x3584_d1 := by
    after_reads_simp
    rfl
  rw [e, h1, h2]
  rfl

/-- The high and the low part. -/
theorem at_parts : StableHlo.upto ops W 121 (Proc.devRef .tc main_call0_v78) = high ∧ StableHlo.upto ops W 121 (Proc.devRef .tc main_call0_v81) = low := by
  have h := at_both W
  rw [upto_from W ops 117 121 (by decide)]
  generalize StableHlo.upto ops W 117 = X at h ⊢
  constructor
  · after_reads_simp
    rw [h]
    rfl
  · after_reads_simp
    rw [h]
    rfl

theorem at_table : StableHlo.upto ops W 122 (Proc.devRef .tc main_call0_v82) = table := by
  obtain ⟨h1, h2⟩ := at_parts W
  rw [upto_from W ops 121 122 (by decide)]
  generalize StableHlo.upto ops W 121 = X at h1 h2 ⊢
  have e : StableHlo.after ((ops.take 122).drop 121) X (Proc.devRef .tc main_call0_v82) =
      concatenate S243x3584 0 [⟨S81x3584, (X (Proc.devRef .tc main_call0_v78) : FVec Ideal S81x3584 .bf16)⟩, ⟨S81x3584, (X (Proc.devRef .tc main_call0_v81) : FVec Ideal S81x3584 .bf16)⟩, ⟨S81x3584, (X (Proc.devRef .tc main_call0_v78) : FVec Ideal S81x3584 .bf16)⟩] concatenates_S81x3584_S81x3584_S81x3584_S243x3584_d0 := by
    after_reads_simp
    rfl
  rw [e, h1, h2]
  rfl

/-! What the call finds. -/

variable (m : (ℓ : Loc nD τ sig) → Buf (Elt Ideal) ℓ) (c : Dev nD)

theorem found_table : V m c main_call0_v82 = table := at_table fun b => m (c, b)

theorem found_signs : V m c main_call0_cst_17 = (fun i => FloatOps.ofBits (F := Ideal) .bf16 (lit13 (S2x18x3584.rowMajor i))) := by
  after_reads_simp
  rfl

theorem found_exps : V m c main_call0_cst_18 = (fun i => FloatOps.ofBits (F := Ideal) .f32 (lit14 (S3x81.rowMajor i))) := by
  after_reads_simp
  rfl

theorem found_args : V m c main_call0_v0 = shapeCast S4096x1 (m ((c.tc : Thread nD τ).loc main_arg0) : FVec Ideal S4096 .f32) shapeCasts_S4096_S4096x1 ∧
    V m c main_call0_v1 = shapeCast S4096x1 (m ((c.tc : Thread nD τ).loc main_arg1) : FVec Ideal S4096 .f32) shapeCasts_S4096_S4096x1 ∧
    V m c main_call0_v2 = shapeCast S4096x1 (m ((c.tc : Thread nD τ).loc main_arg2) : FVec Ideal S4096 .f32) shapeCasts_S4096_S4096x1 := by
  refine ⟨?_, ?_, ?_⟩ <;> (after_reads_simp; rfl)

end Cert.Wigner.Host

end
-- ==== Proof.TermTables.lean ====
/- What the term lists of the two programs hold, checked entry by entry: both programs list the terms of the small-d
   matrices in the same order, with the same coefficient words, the kernel's column being the strip's column of the
   reference's row and column, and the kernel's exponents (by row of its exponent table) the reference's. -/
module

public import proofs.«01_k».proof.Proof.Index
public import proofs.«01_k».proof.KernelIdeal
public import proofs.«01_k».proof.ReferenceIdeal

@[expose] public noncomputable section

namespace Cert.Wigner

/-- The exponent table by its flat position. -/
def expW (n : Nat) : Nat := if h : n < 243 then (Cert.KernelIdeal.lit14 ⟨n, h⟩).toNat else 0

/-- Term `t` of the two lists. -/
def termCheck (t : Nat) : Bool :=
  let r := (Cert.ReferenceIdeal.lit3t t).toNat
  let c := (Cert.ReferenceIdeal.lit4t t).toNat
  let k := (Cert.KernelIdeal.lit1t t).toNat
  Nat.blt r 81 && Nat.blt c 81 && (deg r == deg c) && Nat.blt k 81 &&
  ((Cert.KernelIdeal.lit2t t).toNat == colOf r c) &&
  ((Cert.KernelIdeal.lit0t t).toNat == (Cert.ReferenceIdeal.lit1t t).toNat) &&
  (Nat.blt ((Cert.KernelIdeal.lit0t t).toNat / 2 ^ 23 % 256) 255) &&
  (expW k == (Cert.ReferenceIdeal.lit0t t).toNat) &&
  (expW (81 + k) == (Cert.ReferenceIdeal.lit2t t).toNat)

/-- The terms `a, …, a + n - 1`. -/
def termsFrom (a n : Nat) : Bool := (List.range n).all fun t => termCheck (a + t)

theorem termCheck_0 : termsFrom 0 900 = true := by decide +kernel
theorem termCheck_900 : termsFrom 900 900 = true := by decide +kernel
theorem termCheck_1800 : termsFrom 1800 885 = true := by decide +kernel

end Cert.Wigner

end
-- ==== Proof.KernelTables.lean ====
/- What the kernel's literal tables hold, checked entry by entry: at the strip's column of a pair `(i, j)` of rows of
   one degree. -/
module

public import proofs.«01_k».proof.Proof.Index
public import proofs.«01_k».proof.KernelIdeal.P06

@[expose] public noncomputable section

namespace Cert.Wigner

open Cert.KernelIdeal

/-- The word of the sign `(-1)^n` in binary32. -/
def sgnW (n : Nat) : Nat := if n % 2 = 0 then 0x3F800000 else 0xBF800000

/-- The four gather columns, the two tests for order 0 and the four signs at the column of `(i, j)`. -/
def colCheck (i j : Nat) : Bool :=
  (lit5t (colOf i j)).toNat == colOf (posOf i) (posOf j) &&
  (lit6t (colOf i j)).toNat == colOf (posOf i) (negOf j) &&
  (lit7t (colOf i j)).toNat == colOf (negOf i) (posOf j) &&
  (lit8t (colOf i j)).toNat == colOf (negOf i) (negOf j) &&
  (lit3t (colOf i j)).toNat == (if mu i = 0 then 1 else 0) &&
  (lit4t (colOf i j)).toNat == (if mu j = 0 then 1 else 0) &&
  (lit9t (colOf i j)).toNat == sgnW (mu i + mu j) &&
  (lit10t (colOf i j)).toNat == sgnW (mu i) &&
  (lit11t (colOf i j)).toNat == sgnW (mu j) &&
  (lit12t (colOf i j)).toNat == 0x3F800000

/-- The tables at every pair of rows of one degree. -/
theorem colCheck_all : allPairs colCheck := by unfold allPairs; decide +kernel

end Cert.Wigner

end
-- ==== Proof.UnitaryTables.lean ====
/- What the reference's tables of the change to the real basis hold, checked entry by entry: row `i` of `sqrt 2 U` has
   entries at the rows of order `|m|` and `-|m|` alone; the orders themselves; the test for order 0. -/
module

public import proofs.«01_k».proof.Proof.TermTables
public import proofs.«01_k».proof.Proof.KernelTables

@[expose] public noncomputable section

namespace Cert.Wigner

/-- The real part's word at `(i, k)`. -/
def reW (i k : Nat) : Nat :=
  if i < ctr i then 0
  else if i = ctr i then (if k = i then 0x3F800000 else 0)
  else if k = posOf i then sgnW (mu i) else if k = negOf i then 0x3F800000 else 0

/-- The imaginary part's word at `(i, k)`. -/
def imW (i k : Nat) : Nat :=
  if i < ctr i then (if k = posOf i then sgnW (mu i + 1) else if k = negOf i then 0x3F800000 else 0) else 0

/-- Row `i` of the two sign tables. -/
def rowCheck (i : Nat) : Bool :=
  (List.range 81).all fun k =>
    (Cert.ReferenceIdeal.lit8t (i * 81 + k)).toNat == reW i k &&
    (Cert.ReferenceIdeal.lit9t (i * 81 + k)).toNat == imW i k

/-- The order of row `i`, its word that of the kernel's order table, with the sign bit where the order is negative; the
    same table for both angles; and the test for order 0. -/
def orderCheck (i : Fin 81) : Bool :=
  (Cert.ReferenceIdeal.lit5 i).toNat == expW (162 + mu i) + (if ctr i ≤ i.val then 0 else 2 ^ 31) &&
  (Cert.ReferenceIdeal.lit6 i).toNat == (Cert.ReferenceIdeal.lit5 i).toNat &&
  (Cert.ReferenceIdeal.lit7 i).toNat == (if mu i = 0 then 1 else 0)

/-- The rows `a, …, a + n - 1`. -/
def rowsFrom (a n : Nat) : Bool := (List.range n).all fun t => rowCheck (a + t)

theorem rowCheck_0 : rowsFrom 0 40 = true := by decide +kernel
theorem rowCheck_40 : rowsFrom 40 41 = true := by decide +kernel

theorem orderCheck_all : ∀ i : Fin 81, orderCheck i = true := by decide +kernel

end Cert.Wigner

end
-- ==== Proof.Terms.lean ====
/- The terms of the small-d matrices as real numbers. The kernel sums them per power of cos(beta/2) and sin(beta/2) and
   per column of its strip; the reference per row and column of the matrix. At the column of a pair of rows of one degree
   the two sums are the same. -/
module

public import proofs.«01_k».proof.Proof.TermTables
public import proofs.«01_k».proof.Proof.IndexFacts
public import proofs.«01_k».proof.Proof.Words

@[expose] public noncomputable section

namespace Cert.Wigner

open Idealize.ShloMosaic

/-- Term `t` passes its check. -/
theorem termCheck_all (t : Fin 2685) : termCheck t = true := by
  have key : ∀ a n, termsFrom a n = true → a ≤ t.val → t.val < a + n → termCheck t = true := by
    intro a n h h1 h2
    unfold termsFrom at h
    rw [List.all_eq_true] at h
    have := h (t.val - a) (List.mem_range.2 (by omega))
    rwa [show a + (t.val - a) = t.val by omega] at this
  by_cases h1 : t.val < 900
  · exact key 0 900 termCheck_0 (by omega) (by omega)
  · by_cases h2 : t.val < 1800
    · exact key 900 900 termCheck_900 (by omega) (by omega)
    · exact key 1800 885 termCheck_1800 (by omega) (by omega)

/-- The words of the exponent table denote real numbers. -/
theorem exponents_finite : ∀ n : Fin 243, (Cert.KernelIdeal.lit14 n).toNat / 2 ^ 23 % 256 < 255 := by decide +kernel

/-- Row `n` of the exponent table, flat, as a real number. -/
def expR (n : Fin 243) : ℝ := rv (Cert.KernelIdeal.lit14 n)

/-- The power of the cosine, and of the sine, in the kernel's monomial `r`. -/
def powC (r : Fin 81) : ℝ := expR ⟨r.val, by omega⟩
def powS (r : Fin 81) : ℝ := expR ⟨81 + r.val, by omega⟩

/-- Term `t` as the two programs have it: row, column, monomial and strip column. -/
structure TermAt (t : Fin 2685) (i j r : Fin 81) : Prop where
  row : (Cert.ReferenceIdeal.lit3 t).toNat = i.val
  col : (Cert.ReferenceIdeal.lit4 t).toNat = j.val
  same : deg i = deg j
  mono : (Cert.KernelIdeal.lit1 t).toNat = r.val
  strip : (Cert.KernelIdeal.lit2 t).toNat = colOf i j
  coef : Cert.KernelIdeal.lit0 t = Cert.ReferenceIdeal.lit1 t
  coefFin : (Cert.ReferenceIdeal.lit1 t).toNat / 2 ^ 23 % 256 < 255
  ec : Cert.ReferenceIdeal.lit0 t = Cert.KernelIdeal.lit14 ⟨r.val, by omega⟩
  es : Cert.ReferenceIdeal.lit2 t = Cert.KernelIdeal.lit14 ⟨81 + r.val, by omega⟩

/-- Each term has them. -/
theorem termAt (t : Fin 2685) : ∃ i j r : Fin 81, TermAt t i j r := by
  have h := termCheck_all t
  unfold termCheck at h
  simp only [Bool.and_eq_true, Nat.blt_eq, beq_iff_eq] at h
  obtain ⟨⟨⟨⟨⟨⟨⟨⟨hr, hc⟩, hd⟩, hk⟩, hs⟩, hco⟩, hf⟩, he⟩, hes⟩ := h
  refine ⟨⟨_, hr⟩, ⟨_, hc⟩, ⟨_, hk⟩, rfl, rfl, hd, rfl, hs, BitVec.eq_of_toNat_eq hco, ?_, ?_, ?_⟩
  · exact hco ▸ hf
  · apply BitVec.eq_of_toNat_eq
    rw [expW, dif_pos (by omega)] at he
    exact he.symm
  · apply BitVec.eq_of_toNat_eq
    rw [expW, dif_pos (by omega)] at hes
    exact hes.symm

/-- The reference's term `t`, from the cosine and the sine. -/
def termR (c s : ℝ) (t : Fin 2685) : ℝ :=
  rv (Cert.ReferenceIdeal.lit1 t) * c ^ rv (Cert.ReferenceIdeal.lit0 t) * s ^ rv (Cert.ReferenceIdeal.lit2 t)

/-- The small-d matrix. -/
def small (c s : ℝ) (i j : Fin 81) : ℝ :=
  ∑ t : Fin 2685, if (Cert.ReferenceIdeal.lit3 t).toNat = i.val ∧ (Cert.ReferenceIdeal.lit4 t).toNat = j.val then termR c s t else 0

/-- The kernel's coefficient of monomial `r` at the strip's column `e`. -/
def dcoef (r : Fin 81) (e : Nat) : ℝ :=
  ∑ t : Fin 2685, if (Cert.KernelIdeal.lit1 t).toNat = r.val ∧ (Cert.KernelIdeal.lit2 t).toNat = e then rv (Cert.KernelIdeal.lit0 t) else 0

/-- The kernel's monomial `r`. -/
def monomial (c s : ℝ) (r : Fin 81) : ℝ := Real.exp (powC r * Real.log c + powS r * Real.log s)

/-- It is the product of the two powers. -/
theorem monomial_eq {c s : ℝ} (hc : 0 < c) (hs : 0 < s) (r : Fin 81) : monomial c s r = c ^ powC r * s ^ powS r := by
  unfold monomial
  rw [Real.exp_add, Real.rpow_def_of_pos hc, Real.rpow_def_of_pos hs, mul_comm (powC r), mul_comm (powS r)]

/-- Summed over the monomials, the kernel's coefficients at the column of `(i, j)` give the small-d matrix at `(i, j)`. -/
theorem strip_sum {c s : ℝ} (hc : 0 < c) (hs : 0 < s) (i j : Fin 81) (e : deg i = deg j) :
    ∑ r : Fin 81, monomial c s r * dcoef r (colOf i j) = small c s i j := by
  unfold dcoef small
  simp only [Finset.mul_sum]
  rw [Finset.sum_comm]
  refine Finset.sum_congr rfl fun t _ => ?_
  obtain ⟨i', j', r', T⟩ := termAt t
  rw [T.row, T.col, T.mono, T.strip]
  by_cases hij : i' = i ∧ j' = j
  · obtain ⟨rfl, rfl⟩ := hij
    rw [if_pos ⟨rfl, rfl⟩, Finset.sum_eq_single r']
    · rw [if_pos ⟨rfl, rfl⟩, monomial_eq hc hs, T.coef]
      unfold termR
      rw [T.ec, T.es]
      show c ^ rv _ * s ^ rv _ * _ = _
      ring
    · intro r _ hr
      rw [if_neg fun h => hr (Fin.ext h.1.symm), mul_zero]
    · intro h; exact absurd (Finset.mem_univ _) h
  · have h1 : ¬ (i'.val = i.val ∧ j'.val = j.val) := fun h => hij ⟨Fin.ext h.1, Fin.ext h.2⟩
    rw [if_neg h1]
    refine Finset.sum_eq_zero fun r _ => ?_
    rw [if_neg fun h => hij (colOf_inj i' j' i j T.same e h.2), mul_zero]

/-- Off the diagonal blocks the small-d matrix is zero. -/
theorem small_off {c s : ℝ} (i j : Fin 81) (e : deg i ≠ deg j) : small c s i j = 0 := by
  unfold small
  refine Finset.sum_eq_zero fun t _ => ?_
  obtain ⟨i', j', r', T⟩ := termAt t
  rw [T.row, T.col]
  refine if_neg fun h => e ?_
  have := T.same
  rwa [h.1, h.2] at this

end Cert.Wigner

end
-- ==== Proof.Unitary.lean ====
/- The reference's orders and its change to the real basis as real numbers. -/
module

public import proofs.«01_k».proof.Proof.UnitaryTables
public import proofs.«01_k».proof.Proof.Terms

@[expose] public noncomputable section

namespace Cert.Wigner

open Idealize.ShloMosaic

/-- `|m|` of a row of order `m`. -/
def muF (i : Fin 81) : Fin 9 := ⟨mu i, (row_facts i).2.2.2.2.2.2.2.2.2.1⟩

/-- The order `n` as the kernel's table has it. -/
def ordN (n : Fin 9) : ℝ := expR ⟨162 + n.val, by omega⟩

theorem ordN_zero : ordN 0 = 0 := by
  unfold ordN expR
  have : Cert.KernelIdeal.lit14 ⟨162 + (0 : Fin 9).val, by omega⟩ = 0x00000000#32 := by decide +kernel
  rw [this, rv, word_zero, EReal.toReal_coe]

/-- The order of row `i`. -/
def ordAt (i : Fin 81) : ℝ := if ctr i ≤ i.val then ordN (muF i) else -ordN (muF i)

theorem order_word (i : Fin 81) : Ideal.ofBits .f32 (Cert.ReferenceIdeal.lit5 i) = ((ordAt i : ℝ) : EReal) := by
  have h := orderCheck_all i
  simp only [orderCheck, Bool.and_eq_true, beq_iff_eq] at h
  have h5 := h.1.1
  have hm : mu i < 9 := (row_facts i).2.2.2.2.2.2.2.2.2.1
  rw [expW, dif_pos (by omega : 162 + mu i < 243)] at h5
  have hf := exponents_finite ⟨162 + mu i, by omega⟩
  have hv := (Cert.ReferenceIdeal.lit5 i).isLt
  unfold ordAt
  split
  · next hc =>
    rw [if_pos hc] at h5
    rw [BitVec.eq_of_toNat_eq h5]
    exact ofBits_eq_rv _ hf
  · next hc =>
    rw [if_neg hc] at h5
    have hlt : (Cert.KernelIdeal.lit14 ⟨162 + mu i, by omega⟩).toNat < 2 ^ 31 := by omega
    rw [ofBits_eq_rv _ (by rw [h5]; omega), rv_neg _ hlt hf _ h5]
    rfl

theorem order_word' (i : Fin 81) : Cert.ReferenceIdeal.lit6 i = Cert.ReferenceIdeal.lit5 i := by
  revert i
  decide +kernel

/-- The orders of the two rows that row `i` of the basis change names. -/
theorem ordAt_pos (i : Fin 81) : ordAt (pos i) = ordN (muF i) := by
  obtain ⟨_, _, _, _, h1, _, h2, _⟩ := row_facts i
  unfold ordAt
  rw [if_pos (show ctr (pos i).val ≤ (pos i).val from h2)]
  exact congrArg ordN (Fin.ext h1)

theorem ordAt_neg (i : Fin 81) : ordAt (neg i) = -ordN (muF i) := by
  obtain ⟨_, _, _, _, _, h1, _, h2, h3, _⟩ := row_facts i
  have hm : muF (neg i) = muF i := Fin.ext h1
  unfold ordAt
  by_cases h : mu i = 0
  · rw [if_pos (show ctr (neg i).val ≤ (neg i).val from h2 h), hm, show muF i = 0 from Fin.ext h, ordN_zero, neg_zero]
  · rw [if_neg (Nat.not_le.2 (show (neg i).val < ctr (neg i).val from h3 h)), hm]

/-- 1/sqrt 2. -/
def r2 : ℝ := 1 / Real.sqrt 2

theorem r2_mul : r2 * r2 = 1 / 2 := by
  unfold r2
  rw [div_mul_div_comm, one_mul, Real.mul_self_sqrt (by norm_num)]

/-- The sign `(-1)^n`. -/
def sg (n : Nat) : ℝ := if n % 2 = 0 then 1 else -1

theorem sg_word (n : Nat) (w : BitVec 32) (h : w.toNat = sgnW n) : Ideal.ofBits .f32 w = ((sg n : ℝ) : EReal) := by
  unfold sgnW at h
  unfold sg
  split at h
  · next e =>
    rw [if_pos e, show w = 0x3F800000#32 from BitVec.eq_of_toNat_eq h]
    exact word_one
  · next e =>
    rw [if_neg e, show w = 0xBF800000#32 from BitVec.eq_of_toNat_eq h]
    exact word_neg_one

theorem sg_succ (n : Nat) : sg (n + 1) = -sg n := by
  unfold sg
  rcases Nat.mod_two_eq_zero_or_one n with h | h
  · rw [if_neg (by omega), if_pos h]
  · rw [if_pos (by omega), if_neg (by omega)]; norm_num

theorem sg_add (m n : Nat) : sg (m + n) = sg m * sg n := by
  unfold sg
  rcases Nat.mod_two_eq_zero_or_one n with h | h <;> rcases Nat.mod_two_eq_zero_or_one m with h' | h'
  · rw [if_pos (by omega), if_pos h', if_pos h]; norm_num
  · rw [if_neg (by omega), if_neg (by omega), if_pos h]; norm_num
  · rw [if_neg (by omega), if_pos h', if_neg (by omega)]; norm_num
  · rw [if_pos (by omega), if_neg (by omega), if_neg (by omega)]; norm_num

/-- The basis change at row `i`: its real part at order `|m|` and at order `-|m|`, and its imaginary part. -/
def ca (i : Fin 81) : ℝ := if ctr i < i.val then r2 * sg (mu i) else if i.val = ctr i then 1 / 2 else 0
def cb (i : Fin 81) : ℝ := if ctr i < i.val then r2 * 1 else if i.val = ctr i then 1 / 2 else 0
def da (i : Fin 81) : ℝ := if i.val < ctr i then r2 * -sg (mu i) else 0
def db (i : Fin 81) : ℝ := if i.val < ctr i then r2 * 1 else 0

/-- `a` at `p`, `b` at `n`, and their sum where the two are one. -/
def two (p n : Fin 81) (a b : ℝ) (k : Fin 81) : ℝ := (if k = p then a else 0) + (if k = n then b else 0)

/-- A sum against it has two terms. -/
theorem sum_two (f : Fin 81 → ℝ) (p n : Fin 81) (a b : ℝ) : ∑ k, f k * two p n a b k = f p * a + f n * b := by
  unfold two
  simp only [mul_add, Finset.sum_add_distrib, mul_ite, mul_zero, Finset.sum_ite_eq', Finset.mem_univ, if_true]

/-- The scale of row `i`. -/
def scale (i : Fin 81) : ℝ := if mu i = 0 then 1 else r2

theorem row_words (i k : Fin 81) : (Cert.ReferenceIdeal.lit8t (i * 81 + k)).toNat = reW i k ∧
    (Cert.ReferenceIdeal.lit9t (i * 81 + k)).toNat = imW i k := by
  have key : rowCheck i = true := by
    have k0 : ∀ a n, rowsFrom a n = true → a ≤ i.val → i.val < a + n → rowCheck i = true := by
      intro a n h h1 h2
      unfold rowsFrom at h
      rw [List.all_eq_true] at h
      have := h (i.val - a) (List.mem_range.2 (by omega))
      rwa [show a + (i.val - a) = i.val by omega] at this
    by_cases h1 : i.val < 40
    · exact k0 0 40 rowCheck_0 (by omega) (by omega)
    · exact k0 40 41 rowCheck_40 (by omega) (by omega)
  unfold rowCheck at key
  rw [List.all_eq_true] at key
  have := key k.val (List.mem_range.2 k.isLt)
  simpa only [Bool.and_eq_true, beq_iff_eq] using this

/-- The real part. -/
theorem re_entry (i k : Fin 81) (w : BitVec 32) (hw : w.toNat = reW i k) :
    ((scale i : ℝ) : EReal) * Ideal.ofBits .f32 w = ((two (pos i) (neg i) (ca i) (cb i) k : ℝ) : EReal) := by
  obtain ⟨_, _, _, _, _, _, _, _, _, _, hz, hn⟩ := row_facts i
  unfold reW at hw
  unfold scale two ca cb
  rcases Nat.lt_trichotomy i.val (ctr i) with h | h | h
  · rw [if_pos h] at hw
    rw [show w = 0x00000000#32 from BitVec.eq_of_toNat_eq hw, word_zero, ← EReal.coe_mul]
    have h1 : ¬ ctr i < i.val := by omega
    have h2 : ¬ i.val = ctr i := by omega
    simp only [if_neg h1, if_neg h2]
    simp
  · have hm : mu i = 0 := by
      by_contra hc; exact (hn hc).2 h
    obtain ⟨hp, hq, -⟩ := hz hm
    rw [if_neg (by omega), if_pos h] at hw
    have h1 : ¬ ctr i < i.val := by omega
    simp only [if_pos hm, if_neg h1, if_pos h, show pos i = i from Fin.ext hp, show neg i = i from Fin.ext hq]
    by_cases hk : k = i
    · rw [if_pos (congrArg Fin.val hk)] at hw
      rw [if_pos hk, show w = 0x3F800000#32 from BitVec.eq_of_toNat_eq hw, word_one, ← EReal.coe_mul]
      norm_num
    · rw [if_neg fun e => hk (Fin.ext e)] at hw
      rw [if_neg hk, show w = 0x00000000#32 from BitVec.eq_of_toNat_eq hw, word_zero, ← EReal.coe_mul]
      norm_num
  · have hm : mu i ≠ 0 := fun hc => by have := (hz hc).2.2; omega
    have hpn := (hn hm).1
    rw [if_neg (by omega), if_neg (by omega)] at hw
    rw [if_neg hm, if_pos h, if_pos h]
    by_cases hk : k = pos i
    · rw [if_pos (show k.val = posOf i from congrArg Fin.val hk)] at hw
      rw [if_pos hk, if_neg (show ¬ k = neg i from fun e => hpn (congrArg Fin.val (hk.symm.trans e))), sg_word _ _ hw, ← EReal.coe_mul, add_zero]
    · rw [if_neg (show ¬ k.val = posOf i from fun e => hk (Fin.ext e))] at hw
      rw [if_neg hk]
      by_cases hk' : k = neg i
      · rw [if_pos (show k.val = negOf i from congrArg Fin.val hk')] at hw
        rw [if_pos hk', show w = 0x3F800000#32 from BitVec.eq_of_toNat_eq hw, word_one, ← EReal.coe_mul, zero_add]
      · rw [if_neg (show ¬ k.val = negOf i from fun e => hk' (Fin.ext e))] at hw
        rw [if_neg hk', show w = 0x00000000#32 from BitVec.eq_of_toNat_eq hw, word_zero, ← EReal.coe_mul]
        norm_num

/-- The imaginary part. -/
theorem im_entry (i k : Fin 81) (w : BitVec 32) (hw : w.toNat = imW i k) :
    ((scale i : ℝ) : EReal) * Ideal.ofBits .f32 w = ((two (pos i) (neg i) (da i) (db i) k : ℝ) : EReal) := by
  obtain ⟨_, _, _, _, _, _, _, _, _, _, hz, hn⟩ := row_facts i
  unfold imW at hw
  unfold scale two da db
  by_cases h : i.val < ctr i
  · have hm : mu i ≠ 0 := fun hc => by have := (hz hc).2.2; omega
    have hpn := (hn hm).1
    rw [if_pos h] at hw
    rw [if_neg hm, if_pos h, if_pos h]
    by_cases hk : k = pos i
    · rw [if_pos (show k.val = posOf i from congrArg Fin.val hk)] at hw
      rw [if_pos hk, if_neg (show ¬ k = neg i from fun e => hpn (congrArg Fin.val (hk.symm.trans e))), sg_word _ _ hw, ← EReal.coe_mul, add_zero, sg_succ]
    · rw [if_neg (show ¬ k.val = posOf i from fun e => hk (Fin.ext e))] at hw
      rw [if_neg hk]
      by_cases hk' : k = neg i
      · rw [if_pos (show k.val = negOf i from congrArg Fin.val hk')] at hw
        rw [if_pos hk', show w = 0x3F800000#32 from BitVec.eq_of_toNat_eq hw, word_one, ← EReal.coe_mul, zero_add]
      · rw [if_neg (show ¬ k.val = negOf i from fun e => hk' (Fin.ext e))] at hw
        rw [if_neg hk', show w = 0x00000000#32 from BitVec.eq_of_toNat_eq hw, word_zero, ← EReal.coe_mul]
        norm_num
  · rw [if_neg h] at hw
    rw [show w = 0x00000000#32 from BitVec.eq_of_toNat_eq hw, word_zero, ← EReal.coe_mul, if_neg h, if_neg h]
    simp

end Cert.Wigner

end
-- ==== Proof.HostValue.lean ====
/- What the kernel's host computes: the entries of its coefficient table at the strip's used columns, as real numbers. -/
module

public import proofs.«01_k».proof.Proof.HostStages
public import proofs.«01_k».proof.Proof.Unitary

@[expose] public noncomputable section

set_option maxRecDepth 16384

namespace Cert.Wigner.Host

open Idealize.ShloMosaic Cert.KernelIdeal Cert.KernelIdeal.Gen

theorem rm1 {n : Nat} (t : Fin n) : ((⟨1, ![n]⟩ : Shape).rowMajor (ix1 t)).val = t.val := Shape.rowMajor_val_one _

theorem rmT (t : Fin 2685) : S2685.rowMajor (ix1 t) = t := Fin.ext (rm1 t)
theorem rmE (t : Fin 1792) : S1792.rowMajor (ix1 t) = t := Fin.ext (rm1 t)

/-- The words that place coefficient `t`. -/
theorem places_row (t : Fin 2685) : places (ix2 t 0) = lit1 t := by
  pointwise [places, rowPlaces, colPlaces]
  exact congrArg lit1 (rmT t)

theorem places_col (t : Fin 2685) : places (ix2 t 1) = lit2 t := by
  pointwise [places, rowPlaces, colPlaces]
  exact congrArg lit2 (rmT t)

/-- Where a coefficient lands. -/
theorem lands (idx : IVec S2685x2 32) (t : Fin 2685) (r : Fin 81) (e : Fin 1792) :
    scatter_S81x1792_S2685x2_S2685_n_01_01_1.resultIdx? (ix1 t) idx = some (ix2 r e)
      ↔ (idx (ix2 t 0)).toInt = r.val ∧ (idx (ix2 t 1)).toInt = e.val := by
  rw [Routing.resultIdx?_eq_some]
  have w0 : scatter_S81x1792_S2685x2_S2685_n_01_01_1.window (ix1 t) 0 = 0 := rfl
  have w1 : scatter_S81x1792_S2685x2_S2685_n_01_01_1.window (ix1 t) 1 = 0 := rfl
  have s0 : scatter_S81x1792_S2685x2_S2685_n_01_01_1.start (ix1 t) idx 0 = (idx (ix2 t 0)).toInt := by
    show (idx _).toInt = _
    congr 2
    funext a
    match a with
    | ⟨0, _⟩ => rfl
    | ⟨1, _⟩ => rfl
  have s1 : scatter_S81x1792_S2685x2_S2685_n_01_01_1.start (ix1 t) idx 1 = (idx (ix2 t 1)).toInt := by
    show (idx _).toInt = _
    congr 2
    funext a
    match a with
    | ⟨0, _⟩ => rfl
    | ⟨1, _⟩ => rfl
  have e0 : ((ix2 r e 0).val : Int) = r.val := rfl
  have e1 : ((ix2 r e 1).val : Int) = e.val := rfl
  constructor
  · intro h
    have h0 := h 0
    have h1 := h 1
    rw [s0, w0, e0] at h0
    rw [s1, w1, e1] at h1
    exact ⟨by omega, by omega⟩
  · rintro ⟨h1, h2⟩ a
    match a with
    | ⟨0, _⟩ => exact (congrArg₂ (· + ·) s0 (congrArg Nat.cast w0)).trans (by rw [h1]; simp)
    | ⟨1, _⟩ => exact (congrArg₂ (· + ·) s1 (congrArg Nat.cast w1)).trans (by rw [h2]; simp)

theorem toInt_small (w : BitVec 32) (n k : Nat) (hn : n < 2 ^ 31) (h : w.toNat = n) : w.toInt = k ↔ w.toNat = k := by
  rw [BitVec.toInt_eq_toNat_of_lt (by omega)]
  omega

/-- The coefficients. -/
theorem coeffs_entry (r : Fin 81) (e : Fin 1792) : coeffs (ix2 r e) = ((dcoef r e : ℝ) : EReal) := by
  unfold coeffs
  show Ideal.hostScatterAdd _ _ _ _ _ = _
  unfold Ideal.hostScatterAdd
  rw [Finset.sum_filter, sum_idx1]
  have hz : (broadcastInDim S81x1792 ![] bcast_S_S81x1792 (constant (F := Ideal) S_ FTy.f32 0x00000000#32)) (ix2 r e) = ((0 : ℝ) : EReal) := by
    pointwise
    rfl
  have hin : ∀ t : Fin 2685,
      (if scatter_S81x1792_S2685x2_S2685_n_01_01_1.resultIdx? (ix1 t) places = some (ix2 r e) then Ideal.ofBits .f32 (lit0 (S2685.rowMajor (ix1 t))) else 0)
        = ((if (lit1 t).toNat = r.val ∧ (lit2 t).toNat = e.val then rv (lit0 t) else 0 : ℝ) : EReal) := by
    intro t
    obtain ⟨i', j', r', T⟩ := termAt t
    have hl := lands places t r e
    have hc := colOf_lt i' j' T.same
    rw [places_row, places_col, toInt_small _ _ r (by omega) T.mono, toInt_small _ _ e (by omega) T.strip] at hl
    by_cases q : (lit1 t).toNat = r.val ∧ (lit2 t).toNat = e.val
    · rw [if_pos (hl.2 q), if_pos q, rmT, ofBits_eq_rv _ (by rw [T.coef]; exact T.coefFin)]
    · rw [if_neg fun h => q (hl.1 h), if_neg q, EReal.coe_zero]
  rw [hz]
  refine (congrArg (((0 : ℝ) : EReal) + ·) (Finset.sum_congr rfl fun t _ => hin t)).trans ?_
  rw [coe_sum, ← EReal.coe_add, zero_add]
  rfl

/-- Column `e` of what is taken is the column that the table names. -/
theorem taken_entry (l : Fin 1792 → BitVec 32) (r : Fin 81) (e k : Fin 1792) (h : (l e).toNat = k.val) :
    taken l (ix2 r e) = ((dcoef r k : ℝ) : EReal) := by
  rw [← coeffs_entry]
  unfold taken Host.gather
  refine congrArg coeffs (funext fun a => Fin.ext ?_)
  generalize hI : broadcastInDim S1792x1 ![0] bcast_S1792_S1792x1_0
      (select (constantI S1792 1 0#1)
        (addi (fun i => l (S1792.rowMajor i)) (broadcastInDim S1792 ![] bcast_S_S1792 (constantI S_ 32 1792#32)))
        fun i => l (S1792.rowMajor i)) = idx
  have hi : idx (ix2 e 0) = l e := by
    rw [← hI]
    pointwise
    exact congrArg l (rmE e)
  match a with
  | ⟨0, _⟩ =>
    show 0 + 0 + r.val = r.val
    omega
  | ⟨1, _⟩ =>
    have hs : gather_S81x1792_S1792x1_S81x1792_0_1_n_n_1_1_811.start (ix2 r e) idx 1 = min (idx (ix2 e 0)).toInt.toNat 1791 := by
      show min (idx _).toInt.toNat _ = _
      congr 4
      funext a
      match a with
      | ⟨0, _⟩ => rfl
      | ⟨1, _⟩ => rfl
    show gather_S81x1792_S1792x1_S81x1792_0_1_n_n_1_1_811.start (ix2 r e) idx 1 + 0 + 0 = k.val
    rw [hs, hi, BitVec.toInt_eq_toNat_of_lt (by omega)]
    omega

/-- The factor of order 0 in a column's factor. -/
def rootR (i : Fin 81) : ℝ := if mu i = 0 then r2 else 1

theorem root_entry (l : Fin 1792 → BitVec 1) (e : Fin 1792) (i : Fin 81) (h : (l e).toNat = if mu i = 0 then 1 else 0) :
    root l (ix1 e) = ((rootR i : ℝ) : EReal) := by
  pointwise [root]
  rw [rmE]
  unfold rootR
  by_cases hm : mu i = 0
  · rw [if_pos hm] at h ⊢
    rw [show l e = 1#1 from BitVec.eq_of_toNat_eq h, word_two, Ideal.sqrt_coe, if_neg (by norm_num)]
    first
      | rw [word_one, Ideal.div_coe (by positivity), ← EReal.coe_mul, one_mul]; rfl
      | (rw [show (1 : EReal) = ((1 : ℝ) : EReal) from rfl, Ideal.div_coe (by positivity), ← EReal.coe_mul, one_mul]; rfl)
  · rw [if_neg hm] at h ⊢
    rw [show l e = 0#1 from BitVec.eq_of_toNat_eq h]
    exact word_one

/-- The tables at the column of `(i, j)`. -/
theorem tables_at (i j : Fin 81) (h : deg i = deg j) :
    let e : Fin 1792 := ⟨colOf i j, colOf_lt i j h⟩
    (lit5 e).toNat = colOf (pos i) (pos j) ∧ (lit6 e).toNat = colOf (pos i) (neg j) ∧
    (lit7 e).toNat = colOf (neg i) (pos j) ∧ (lit8 e).toNat = colOf (neg i) (neg j) ∧
    (lit3 e).toNat = (if mu i = 0 then 1 else 0) ∧ (lit4 e).toNat = (if mu j = 0 then 1 else 0) ∧
    (lit9 e).toNat = sgnW (mu i + mu j) ∧ (lit10 e).toNat = sgnW (mu i) ∧ (lit11 e).toNat = sgnW (mu j) ∧
    (lit12 e).toNat = 0x3F800000 := by
  have c := allPairs_apply colCheck_all i j h
  simp only [colCheck, Bool.and_eq_true, beq_iff_eq] at c
  obtain ⟨⟨⟨⟨⟨⟨⟨⟨⟨c1, c2⟩, c3⟩, c4⟩, c5⟩, c6⟩, c7⟩, c8⟩, c9⟩, c10⟩ := c
  exact ⟨c1, c2, c3, c4, c5, c6, c7, c8, c9, c10⟩

/-- The degrees of the four pairs. -/
theorem deg_pos (i : Fin 81) : deg (pos i) = deg i := (row_facts i).2.2.1
theorem deg_neg (i : Fin 81) : deg (neg i) = deg i := (row_facts i).2.2.2.1

/-- A sign times the column that the table names. -/
theorem signed_entry (s l : Fin 1792 → BitVec 32) (r : Fin 81) (e k : Fin 1792) (σ : ℝ)
    (hs : Ideal.ofBits .f32 (s e) = ((σ : ℝ) : EReal)) (h : (l e).toNat = k.val) :
    signed s l (ix2 r e) = ((σ * dcoef r k : ℝ) : EReal) := by
  have ht := taken_entry l r e k h
  generalize hT : taken l = T at ht
  pointwise [signed, hT]
  rw [rmE, hs, ht, ← EReal.coe_mul]

/-- The two combinations as real numbers. -/
def combR (σ : ℝ) (r : Fin 81) (i j : Fin 81) : ℝ :=
  1 / 2 * rootR i * rootR j *
    (sg (mu i) * sg (mu j) * dcoef r (colOf (pos i) (pos j)) + σ * (sg (mu i) * dcoef r (colOf (pos i) (neg j)))
      + σ * (sg (mu j) * dcoef r (colOf (neg i) (pos j))) + 1 * dcoef r (colOf (neg i) (neg j)))

theorem comb_entry (i j : Fin 81) (h : deg i = deg j) (r : Fin 81) :
    combX (ix2 r ⟨colOf i j, colOf_lt i j h⟩) = ((combR 1 r i j : ℝ) : EReal) ∧
    combY (ix2 r ⟨colOf i j, colOf_lt i j h⟩) = ((combR (-1) r i j : ℝ) : EReal) := by
  obtain ⟨c1, c2, c3, c4, c5, c6, c7, c8, c9, c10⟩ := tables_at i j h
  have hp := deg_pos i
  have hn := deg_neg i
  have hp' := deg_pos j
  have hn' := deg_neg j
  have d1 := signed_entry lit9 lit5 r _ ⟨_, colOf_lt (pos i) (pos j) (by omega)⟩ _ (sg_word _ _ c7) c1
  have d2 := signed_entry lit10 lit6 r _ ⟨_, colOf_lt (pos i) (neg j) (by omega)⟩ _ (sg_word _ _ c8) c2
  have d3 := signed_entry lit11 lit7 r _ ⟨_, colOf_lt (neg i) (pos j) (by omega)⟩ _ (sg_word _ _ c9) c3
  have d4 := signed_entry lit12 lit8 r ⟨_, colOf_lt i j h⟩ ⟨_, colOf_lt (neg i) (neg j) (by omega)⟩ 1
    (by rw [BitVec.eq_of_toNat_eq (y := 0x3F800000#32) c10]; exact word_one) c4
  have e1 := root_entry lit3 ⟨_, colOf_lt i j h⟩ i c5
  have e2 := root_entry lit4 ⟨_, colOf_lt i j h⟩ j c6
  have f : factor (ix1 ⟨_, colOf_lt i j h⟩) = ((1 / 2 * rootR i * rootR j : ℝ) : EReal) := by
    pointwise [factor]
    rw [e1, e2, word_half, ← EReal.coe_mul, ← EReal.coe_mul]
  constructor
  · pointwise [combX]
    rw [f, d1, d2, d3, d4]
    simp only [← EReal.coe_mul, ← EReal.coe_add]
    rw [sg_add, combR]
    simp only [one_mul]
  · pointwise [combY]
    rw [f, d1, d2, d3, d4]
    simp only [← EReal.coe_mul, ← EReal.coe_add, ← EReal.coe_sub]
    rw [sg_add, combR]
    exact congrArg _ (by ring)

/-- Three stretches of 81 numbers, one after another. -/
def cat3 (u v w : Fin 81 → ℝ) (k : Fin 243) : ℝ :=
  if h : k.val < 81 then u ⟨k.val, h⟩ else if h' : k.val - 81 < 81 then v ⟨k.val - 81, h'⟩ else w ⟨k.val - 81 - 81, by omega⟩

theorem sum_cat3 (u v w u' v' w' : Fin 81 → ℝ) :
    ∑ k, cat3 u v w k * cat3 u' v' w' k = (∑ r, u r * u' r + ∑ r, v r * v' r) + ∑ r, w r * w' r := by
  rw [Fin.sum_univ_add (a := 162) (b := 81), Fin.sum_univ_add (a := 81) (b := 81)]
  refine congrArg₂ (· + ·) (congrArg₂ (· + ·) ?_ ?_) ?_
  · refine Finset.sum_congr rfl fun r _ => ?_
    have h : ((Fin.castAdd 81 (Fin.castAdd 81 r) : Fin 243).val < 81) := r.isLt
    unfold cat3
    rw [dif_pos h, dif_pos h]
    rfl
  · refine Finset.sum_congr rfl fun r _ => ?_
    have e : (Fin.castAdd 81 (Fin.natAdd 81 r) : Fin 243).val = 81 + r.val := rfl
    have h : ¬ (Fin.castAdd 81 (Fin.natAdd 81 r) : Fin 243).val < 81 := by omega
    have h' : (Fin.castAdd 81 (Fin.natAdd 81 r) : Fin 243).val - 81 < 81 := by omega
    unfold cat3
    rw [dif_neg h, dif_neg h, dif_pos h', dif_pos h']
    exact congrArg₂ (fun a b => v a * v' b) (Fin.ext (by show _ - _ = _; omega)) (Fin.ext (by show _ - _ = _; omega))
  · refine Finset.sum_congr rfl fun r _ => ?_
    have e : (Fin.natAdd 162 r : Fin 243).val = 162 + r.val := rfl
    have h : ¬ (Fin.natAdd 162 r : Fin 243).val < 81 := by omega
    have h' : ¬ (Fin.natAdd 162 r : Fin 243).val - 81 < 81 := by omega
    unfold cat3
    rw [dif_neg h, dif_neg h, dif_neg h', dif_neg h']
    exact congrArg₂ (fun a b => w a * w' b) (Fin.ext (by show _ - _ - _ = _; omega)) (Fin.ext (by show _ - _ - _ = _; omega))

theorem both_entry (r : Fin 81) (e : Fin 1792) :
    both (ix2 r ⟨e.val, by omega⟩) = combX (ix2 r e) ∧ both (ix2 r ⟨1792 + e.val, by omega⟩) = combY (ix2 r e) := by
  have he := e.isLt
  constructor
  · pointwise [both]
  · pointwise [both]

/-- The table's three parts. -/
theorem table_apart (k : Fin 243) (e : Fin 3584) (f : Fin 81 → ℝ) (h : ∀ r, both (ix2 r e) = ((f r : ℝ) : EReal)) :
    table (ix2 k e) = ((cat3 f 0 f k : ℝ) : EReal) := by
  have hl : ∀ r, low (ix2 r e) = ((0 : ℝ) : EReal) := by
    intro r
    pointwise [low, high]
    rw [h, ← EReal.coe_sub, sub_self]
  have hh : ∀ r, high (ix2 r e) = ((f r : ℝ) : EReal) := by
    intro r
    pointwise [high]
    exact h r
  unfold cat3
  generalize hL : low = L at hl
  generalize hH : high = H at hh
  by_cases h1 : k.val < 81
  · rw [dif_pos h1, ← hh]
    pointwise [table, hL, hH, h1]
  · rw [dif_neg h1]
    by_cases h2 : k.val - 81 < 81
    · rw [dif_pos h2]
      refine Eq.trans ?_ (hl ⟨k.val - 81, h2⟩)
      pointwise [table, hL, hH, h1, h2]
    · rw [dif_neg h2, ← hh]
      pointwise [table, hL, hH, h1, h2]

end Cert.Wigner.Host

end
-- ==== Proof.Strip.lean ====
/- The strip's stages by name, and what each holds as real numbers. -/
module

public import proofs.«01_k».proof.Proof.Blocks
public import proofs.«01_k».proof.Proof.HostValue

@[expose] public noncomputable section

set_option maxRecDepth 16384

namespace Cert.Wigner.Kernel

open Idealize.ShloMosaic Idealize.SL.Sem Cert.KernelIdeal Cert.KernelIdeal.Gen

/-- The monomials. -/
def monos (v2 : FVec Ideal S128x1 .f32) (v18 v19 : FVec Ideal S1x81 .f32) : FVec Ideal S128x81 .f32 :=
  exp (addf
    (mulf (broadcastTo S128x81 v18 broadcasts_S1x81_S128x81)
      (broadcastTo S128x81 (log (maximumf (cos (mulf (broadcast S128x1 (Scalar.ofBits .f32 0x3F000000#32)) v2)) (broadcast S128x1 (Scalar.ofBits .f32 0x0DA24260#32)))) broadcasts_S128x1_S128x81))
    (mulf (broadcastTo S128x81 v19 broadcasts_S1x81_S128x81)
      (broadcastTo S128x81 (log (maximumf (sin (mulf (broadcast S128x1 (Scalar.ofBits .f32 0x3F000000#32)) v2)) (broadcast S128x1 (Scalar.ofBits .f32 0x0DA24260#32)))) broadcasts_S128x1_S128x81)))

/-- The monomials in the three stretches that meet the table's three parts. -/
def wide (v : FVec Ideal S128x81 .f32) : FVec Ideal S128x243 .bf16 :=
  concatenate S128x243 1 [⟨S128x81, truncf .bf16 v bitsLt_bf16_f32⟩, ⟨S128x81, truncf .bf16 v bitsLt_bf16_f32⟩,
    ⟨S128x81, truncf .bf16 (subf v (extf .f32 (truncf .bf16 v bitsLt_bf16_f32) bitsLt_bf16_f32)) bitsLt_bf16_f32⟩] concatenates_S128x81_S128x81_S128x81_S128x243_d1

theorem pay9_eq (v2 : FVec Ideal S128x1 .f32) (v18 v19 : FVec Ideal S1x81 .f32) (v33 : FVec Ideal S243x3584 .bf16) :
    k0_pay9 v2 v18 v19 v33 = matmul (φ₁ := .bf16) (φ₂ := .bf16) dot_S128x243_S243x3584_S128x3584_1_0_0_1_n_n none
      (wide (monos (shapeCast S128x1 v2 shapeCasts_S128x1_S128x1) v18 v19))
      (shapeCast S243x3584 v33 shapeCasts_S243x3584_S243x3584) (constant S128x3584 .f32 0x00000000#32) := rfl

/-- The cosines and the sines of nine multiples of an angle. -/
def waves (v : FVec Ideal S128x1 .f32) (o : FVec Ideal S1x9 .f32) : FVec Ideal S128x18 .f32 :=
  concatenate S128x18 1 [⟨S128x9, cos (mulf (broadcastTo S128x9 v broadcasts_S128x1_S128x9) (broadcastTo S128x9 o broadcasts_S1x9_S128x9))⟩,
    ⟨S128x9, sin (mulf (broadcastTo S128x9 v broadcasts_S128x1_S128x9) (broadcastTo S128x9 o broadcasts_S1x9_S128x9))⟩] concatenates_S128x9_S128x9_S128x18_d1

/-- A table in two equal parts. -/
def twice (t : FVec Ideal S1x18x3584 .bf16) : FVec Ideal S36x3584 .bf16 :=
  concatenate S36x3584 0 [⟨S18x3584, shapeCast S18x3584 t shapeCasts_S1x18x3584_S18x3584⟩, ⟨S18x3584, shapeCast S18x3584 t shapeCasts_S1x18x3584_S18x3584⟩] concatenates_S18x3584_S18x3584_S36x3584_d0

/-- The waves in the two stretches that meet the two parts. -/
def split (v : FVec Ideal S128x18 .f32) : FVec Ideal S128x36 .bf16 :=
  concatenate S128x36 1 [⟨S128x18, truncf .bf16 v bitsLt_bf16_f32⟩,
    ⟨S128x18, truncf .bf16 (subf v (extf .f32 (truncf .bf16 v bitsLt_bf16_f32) bitsLt_bf16_f32)) bitsLt_bf16_f32⟩] concatenates_S128x18_S128x18_S128x36_d1

/-- For each column of the strip, the wave that the table picks. -/
def picked (v : FVec Ideal S128x18 .f32) (t : FVec Ideal S1x18x3584 .bf16) : FVec Ideal S128x3584 .f32 :=
  matmul dot_S128x36_S36x3584_S128x3584_1_0_0_1_n_n none (split v) (twice t) (constant S128x3584 .f32 0x00000000#32)

/-- The strip from its three factors, the two halves of the columns added. -/
def joined (a g xy : FVec Ideal S128x3584 .f32) : FVec Ideal S128x1792 .f32 :=
  addf (extractStridedSlice S128x1792 ![0, 0] (mulf (mulf a g) xy) slices_S128x3584_o0_0_S128x1792)
    (extractStridedSlice S128x1792 ![0, 1792] (mulf (mulf a g) xy) slices_S128x3584_o0_1792_S128x1792)

/-- The two small-matrix combinations, for each column of the strip. -/
def rows (v2 : FVec Ideal S128x1 .f32) (v18 v19 : FVec Ideal S1x81 .f32) (v33 : FVec Ideal S243x3584 .bf16) : FVec Ideal S128x3584 .f32 :=
  matmul (φ₁ := .bf16) (φ₂ := .bf16) dot_S128x243_S243x3584_S128x3584_1_0_0_1_n_n none
    (wide (monos (shapeCast S128x1 v2 shapeCasts_S128x1_S128x1) v18 v19)) v33 (constant S128x3584 .f32 0x00000000#32)

theorem strip_eq (x0 x1 x2 : FVec Ideal S128x1 .f32) (x3 : FVec Ideal S243x3584 .bf16) (x4 : FVec Ideal S2x18x3584 .bf16) (x5 : FVec Ideal S3x81 .f32) :
    strip (F := Ideal) x0 x1 x2 x3 x4 x5 =
      joined (picked (waves (shapeCast S128x1 x0 shapeCasts_S128x1_S128x1) (orders (F := Ideal) x5)) (alphaPick (F := Ideal) x4))
        (picked (waves (shapeCast S128x1 x2 shapeCasts_S128x1_S128x1) (orders (F := Ideal) x5)) (gammaPick (F := Ideal) x4))
        (rows x1 (cosExps (F := Ideal) x5) (sinExps (F := Ideal) x5) (shapeCast S243x3584 x3 shapeCasts_S243x3584_S243x3584)) := rfl

/-- An entry of the strip: two products added. -/
theorem joined_entry (a g xy : FVec Ideal S128x3584 .f32) (b : Fin 128) (e : Fin 1792) :
    joined a g xy (ix2 b e) = a (ix2 b ⟨e.val, by omega⟩) * g (ix2 b ⟨e.val, by omega⟩) * xy (ix2 b ⟨e.val, by omega⟩)
      + a (ix2 b ⟨1792 + e.val, by omega⟩) * g (ix2 b ⟨1792 + e.val, by omega⟩) * xy (ix2 b ⟨1792 + e.val, by omega⟩) := by
  pointwise [joined]

theorem floor_pos : (0 : ℝ) < 10633824 / 2 ^ 123 := by positivity

/-- Where the cosine and the sine are above the floor, the stage holds the monomials. -/
theorem monos_entry (v2 : FVec Ideal S128x1 .f32) (v18 v19 : FVec Ideal S1x81 .f32) (b : Fin 128) (r : Fin 81) (β : ℝ)
    (h : v2 (ix2 b 0) = (β : EReal)) (h18 : v18 (ix2 0 r) = ((powC r : ℝ) : EReal)) (h19 : v19 (ix2 0 r) = ((powS r : ℝ) : EReal))
    (hc : 10633824 / 2 ^ 123 ≤ Real.cos (1 / 2 * β)) (hs : 10633824 / 2 ^ 123 ≤ Real.sin (1 / 2 * β)) :
    monos v2 v18 v19 (ix2 b r) = ((monomial (Real.cos (1 / 2 * β)) (Real.sin (1 / 2 * β)) r : ℝ) : EReal) := by
  pointwise [monos]
  rw [h, h18, h19, word_half, word_floor, ← EReal.coe_mul, Ideal.cos_coe, Ideal.sin_coe]
  rw [max_eq_left (EReal.coe_le_coe_iff.2 hc), max_eq_left (EReal.coe_le_coe_iff.2 hs), Ideal.log_coe, Ideal.log_coe, if_neg (by linarith [floor_pos]),
    if_neg (by linarith [floor_pos]), ← EReal.coe_mul, ← EReal.coe_mul, ← EReal.coe_add, Ideal.exp_coe]
  rfl

/-- The product with the table, as a sum. -/
theorem matmul_wide (w : FVec Ideal S128x243 .bf16) (t : FVec Ideal S243x3584 .bf16) (b : Fin 128) (e : Fin 3584) :
    matmul (φ₁ := .bf16) (φ₂ := .bf16) dot_S128x243_S243x3584_S128x3584_1_0_0_1_n_n none w t (constant S128x3584 .f32 0x00000000#32) (ix2 b e)
      = ∑ k : Fin 243, w (ix2 b k) * t (ix2 k e) := by
  pointwise

theorem matmul_split (w : FVec Ideal S128x36 .bf16) (t : FVec Ideal S36x3584 .bf16) (b : Fin 128) (e : Fin 3584) :
    matmul (φ₁ := .bf16) (φ₂ := .bf16) dot_S128x36_S36x3584_S128x3584_1_0_0_1_n_n none w t (constant S128x3584 .f32 0x00000000#32) (ix2 b e)
      = ∑ k : Fin 36, w (ix2 b k) * t (ix2 k e) := by
  pointwise

/-- The three stretches of the monomials. -/
theorem wide_entry (v : FVec Ideal S128x81 .f32) (b : Fin 128) (f : Fin 81 → ℝ) (h : ∀ r, v (ix2 b r) = ((f r : ℝ) : EReal)) (k : Fin 243) :
    wide v (ix2 b k) = ((Host.cat3 f f 0 k : ℝ) : EReal) := by
  unfold Host.cat3
  by_cases h1 : k.val < 81
  · rw [dif_pos h1, ← h]
    pointwise [wide, h1]
  · rw [dif_neg h1]
    by_cases h2 : k.val - 81 < 81
    · rw [dif_pos h2, ← h]
      pointwise [wide, h1, h2]
    · rw [dif_neg h2]
      pointwise [wide, h1, h2]
      rw [h, ← EReal.coe_sub, sub_self]
      rfl

/-- The two combinations, where the table's column is `f`, its rest and `f` again. -/
theorem rows_entry (v2 : FVec Ideal S128x1 .f32) (v18 v19 : FVec Ideal S1x81 .f32) (v33 : FVec Ideal S243x3584 .bf16)
    (b : Fin 128) (e : Fin 3584) (β : ℝ)
    (h : v2 (ix2 b 0) = (β : EReal)) (h18 : ∀ r, v18 (ix2 0 r) = ((powC r : ℝ) : EReal)) (h19 : ∀ r, v19 (ix2 0 r) = ((powS r : ℝ) : EReal))
    (hc : 10633824 / 2 ^ 123 ≤ Real.cos (1 / 2 * β)) (hs : 10633824 / 2 ^ 123 ≤ Real.sin (1 / 2 * β))
    (f : Fin 81 → ℝ) (hf : ∀ k, v33 (ix2 k e) = ((Host.cat3 f 0 f k : ℝ) : EReal)) :
    rows v2 v18 v19 v33 (ix2 b e) = ((∑ r, monomial (Real.cos (1 / 2 * β)) (Real.sin (1 / 2 * β)) r * f r : ℝ) : EReal) := by
  unfold rows
  rw [matmul_wide, shapeCast_self]
  simp only [hf, wide_entry _ b _ fun r => monos_entry v2 v18 v19 b r β h (h18 r) (h19 r) hc hs, ← EReal.coe_mul, coe_sum]
  rw [Host.sum_cat3]
  simp

/-- Two stretches of nine numbers. -/
def cat2 (u v : Fin 9 → ℝ) (k : Fin 18) : ℝ := if h : k.val < 9 then u ⟨k.val, h⟩ else v ⟨k.val - 9, by omega⟩

/-- The nine cosines, then the nine sines. -/
theorem waves_entry (v : FVec Ideal S128x1 .f32) (o : FVec Ideal S1x9 .f32) (b : Fin 128) (α : ℝ) (f : Fin 9 → ℝ)
    (h : v (ix2 b 0) = (α : EReal)) (ho : ∀ r, o (ix2 0 r) = ((f r : ℝ) : EReal)) (k : Fin 18) :
    waves v o (ix2 b k) = ((cat2 (fun r => Real.cos (α * f r)) (fun r => Real.sin (α * f r)) k : ℝ) : EReal) := by
  unfold cat2
  by_cases h1 : k.val < 9
  · rw [dif_pos h1, ← Ideal.cos_coe, EReal.coe_mul, ← h, ← ho]
    pointwise [waves, h1]
  · rw [dif_neg h1, ← Ideal.sin_coe, EReal.coe_mul, ← h, ← ho]
    pointwise [waves, h1]

/-- Picking by a table: the sum of the waves, each times the table's entry. -/
theorem picked_entry (v : FVec Ideal S128x18 .f32) (t : FVec Ideal S1x18x3584 .bf16) (b : Fin 128) (e : Fin 3584) (w f : Fin 18 → ℝ)
    (h : ∀ k, v (ix2 b k) = ((w k : ℝ) : EReal)) (ht : ∀ k, t (ix3 0 k e) = ((f k : ℝ) : EReal)) :
    picked v t (ix2 b e) = ((∑ k, w k * f k : ℝ) : EReal) := by
  have hi : ∀ k : Fin 18, split v (ix2 b ⟨k.val, by omega⟩) = ((w k : ℝ) : EReal) := by
    intro k
    have hk := k.isLt
    rw [← h]
    pointwise [split]
  have lo : ∀ k : Fin 18, split v (ix2 b ⟨18 + k.val, by omega⟩) = ((0 : ℝ) : EReal) := by
    intro k
    have hk := k.isLt
    pointwise [split]
    rw [h, ← EReal.coe_sub, sub_self]
  have tw : ∀ k : Fin 18, twice t (ix2 ⟨k.val, by omega⟩ e) = ((f k : ℝ) : EReal) := by
    intro k
    have hk := k.isLt
    rw [← ht]
    pointwise [twice]
  have tw' : ∀ k : Fin 18, twice t (ix2 ⟨18 + k.val, by omega⟩ e) = ((f k : ℝ) : EReal) := by
    intro k
    have hk := k.isLt
    rw [← ht]
    pointwise [twice]
  unfold picked
  rw [matmul_split, Fin.sum_univ_add (a := 18) (b := 18)]
  refine (congrArg₂ (· + ·) (Finset.sum_congr rfl fun k _ => congrArg₂ (· * ·) (hi k) (tw k))
    (Finset.sum_congr rfl fun k _ => congrArg₂ (· * ·) (lo k) (tw' k))).trans ?_
  simp only [← EReal.coe_mul, coe_sum, ← EReal.coe_add]
  simp

end Cert.Wigner.Kernel

end
-- ==== Proof.SelectionTable.lean ====
/- The kernel's selection table. It has two planes (for alpha, for gamma), each of 18 rows (nine cosines, nine sines)
   and twice 1792 columns; each used column has one entry, plus or minus one. This module says which, as checks that
   the modules AlphaTable and GammaTable evaluate. -/
module

public import proofs.«01_k».proof.Proof.Index
public import proofs.«01_k».proof.KernelIdeal

@[expose] public noncomputable section

namespace Cert.Wigner

open Cert.KernelIdeal

/-- Row `r` of the selection column that holds the word `w` at row `p` and zeros elsewhere. -/
def oneW (p w r : Nat) : Nat := if r = p then w else 0

/-- One plane's two columns of an index `e`: the words and their rows. -/
def planeCheck (plane e p₁ w₁ p₂ w₂ : Nat) : Bool :=
  (List.range 18).all fun r =>
    (lit13t ((plane * 18 + r) * 3584 + e)).toNat == oneW p₁ w₁ r &&
    (lit13t ((plane * 18 + r) * 3584 + (1792 + e))).toNat == oneW p₂ w₂ r

/-- The plane of alpha at the column of `(i, j)`: cosine and sine where row `i` has order at least 0, minus the sine
    and the cosine where it is below. -/
def alphaCheck (i j : Nat) : Bool :=
  if ctr i ≤ i then planeCheck 0 (colOf i j) (mu i) 0x3F80 (9 + mu i) 0x3F80
  else planeCheck 0 (colOf i j) (9 + mu i) 0xBF80 (mu i) 0x3F80

/-- The plane of gamma at the column of `(i, j)`: cosine and minus the sine where row `j` has order at least 0, the
    sine and the cosine where it is below. -/
def gammaCheck (i j : Nat) : Bool :=
  if ctr j ≤ j then planeCheck 1 (colOf i j) (mu j) 0x3F80 (9 + mu j) 0xBF80
  else planeCheck 1 (colOf i j) (9 + mu j) 0x3F80 (mu j) 0x3F80

end Cert.Wigner

end
-- ==== Proof.AlphaTable.lean ====
/- The plane of alpha of the kernel's selection table, evaluated at every used column. -/
module

public import proofs.«01_k».proof.Proof.SelectionTable

@[expose] public noncomputable section

namespace Cert.Wigner

theorem alphaCheck_low : ((List.range 6).all fun l => pairsOf l alphaCheck) = true := by decide +kernel
theorem alphaCheck_six : pairsOf 6 alphaCheck = true := by decide +kernel
theorem alphaCheck_seven : pairsOf 7 alphaCheck = true := by decide +kernel
theorem alphaCheck_eight : pairsOf 8 alphaCheck = true := by decide +kernel

/-- The plane of alpha at every pair of rows of one degree. -/
theorem alphaCheck_all : allPairs alphaCheck := ⟨alphaCheck_low, alphaCheck_six, alphaCheck_seven, alphaCheck_eight⟩

end Cert.Wigner

end
-- ==== Proof.GammaTable.lean ====
/- The plane of gamma of the kernel's selection table, evaluated at every used column. -/
module

public import proofs.«01_k».proof.Proof.SelectionTable

@[expose] public noncomputable section

namespace Cert.Wigner

theorem gammaCheck_low : ((List.range 6).all fun l => pairsOf l gammaCheck) = true := by decide +kernel
theorem gammaCheck_six : pairsOf 6 gammaCheck = true := by decide +kernel
theorem gammaCheck_seven : pairsOf 7 gammaCheck = true := by decide +kernel
theorem gammaCheck_eight : pairsOf 8 gammaCheck = true := by decide +kernel

/-- The plane of gamma at every pair of rows of one degree. -/
theorem gammaCheck_all : allPairs gammaCheck := ⟨gammaCheck_low, gammaCheck_six, gammaCheck_seven, gammaCheck_eight⟩

end Cert.Wigner

end
-- ==== Proof.Equation.lean ====
/- The equation between the two programs at one entry, over the real numbers. `dPP`, `dPN`, `dNP`, `dNN` are the small-d
   matrix at the rows of order `|p|`, `-|p|` and the columns of order `|q|`, `-|q|`; `C`, `S` the cosine and sine of `|p|`
   times alpha, `G`, `H` those of `|q|` times gamma; `f`, `g` the signs `(-1)^p`, `(-1)^q`. -/
module

public import Mathlib.Tactic.LinearCombination
public import Mathlib.Tactic.Ring
public import Mathlib.Data.Real.Basic

@[expose] public noncomputable section

namespace Cert.Wigner

/-- One entry of the reference: the real part of the sum over the two rows and the two columns that the change of basis
    names, its coefficients `a + i v` at order `|p|` and `b + i w` at order `-|p|` for the row, and `a' + i v'`,
    `b' + i w'` for the column, conjugated. -/
def entryR (dPP dPN dNP dNN C S G H a b v w a' b' v' w' : ℝ) : ℝ :=
  let rPP := C * dPP * G - -S * dPP * -H
  let iPP := C * dPP * -H + -S * dPP * G
  let rPN := C * dPN * G - -S * dPN * H
  let iPN := C * dPN * H + -S * dPN * G
  let rNP := C * dNP * G - S * dNP * -H
  let iNP := C * dNP * -H + S * dNP * G
  let rNN := C * dNN * G - S * dNN * H
  let iNN := C * dNN * H + S * dNN * G
  let tP := (rPP * a + rNP * b) - (iPP * v + iNP * w)
  let uP := (iPP * a + iNP * b) + (rPP * v + rNP * w)
  let tN := (rPN * a + rNN * b) - (iPN * v + iNN * w)
  let uN := (iPN * a + iNN * b) + (rPN * v + rNN * w)
  (tP * a' + tN * b') + (uP * v' + uN * w')

/-- One entry of the kernel: `A`, `A'` what it selects for alpha in its two halves, `B`, `B'` for gamma, `h`, `k` the
    factors of order 0. -/
def entryK (dPP dPN dNP dNN A A' B B' h k f g : ℝ) : ℝ :=
  A * B * (1 / 2 * h * k * (f * g * dPP + f * dPN + g * dNP + 1 * dNN))
    + A' * B' * (1 / 2 * h * k * (f * g * dPP - f * dPN - g * dNP + 1 * dNN))

/-- `K` is `R` where `R` is `r²` of twice `K` and `r² = 1/2`. -/
theorem of_square {r K R : ℝ} (hr : r * r = 1 / 2) (e : R = r * r * (2 * K)) : K = R := by rw [e, hr]; ring

variable (dPP dPN dNP dNN C S G H r f g : ℝ)

theorem entry_pos_pos (hr : r * r = 1 / 2) :
    entryK dPP dPN dNP dNN C S G (-H) 1 1 f g
      = entryR dPP dPN dNP dNN C S G H (r * f) (r * 1) 0 0 (r * g) (r * 1) 0 0 := by
  exact of_square hr (by simp only [entryK, entryR]; ring)

theorem entry_pos_neg (hr : r * r = 1 / 2) :
    entryK dPP dPN dNP dNN C S H G 1 1 f g
      = entryR dPP dPN dNP dNN C S G H (r * f) (r * 1) 0 0 0 0 (r * -g) (r * 1) := by
  exact of_square hr (by simp only [entryK, entryR]; ring)

theorem entry_pos_zero :
    entryK dPP dPP dNP dNP C S G (-0) 1 r f 1
      = entryR dPP dPP dNP dNP C S G 0 (r * f) (r * 1) 0 0 (1 / 2) (1 / 2) 0 0 := by
  simp only [entryK, entryR]; ring

theorem entry_neg_pos (hr : r * r = 1 / 2) :
    entryK dPP dPN dNP dNN (-S) C G (-H) 1 1 f g
      = entryR dPP dPN dNP dNN C S G H 0 0 (r * -f) (r * 1) (r * g) (r * 1) 0 0 := by
  exact of_square hr (by simp only [entryK, entryR]; ring)

theorem entry_neg_neg (hr : r * r = 1 / 2) :
    entryK dPP dPN dNP dNN (-S) C H G 1 1 f g
      = entryR dPP dPN dNP dNN C S G H 0 0 (r * -f) (r * 1) 0 0 (r * -g) (r * 1) := by
  exact of_square hr (by simp only [entryK, entryR]; ring)

theorem entry_neg_zero :
    entryK dPP dPP dNP dNP (-S) C G (-0) 1 r f 1
      = entryR dPP dPP dNP dNP C S G 0 0 0 (r * -f) (r * 1) (1 / 2) (1 / 2) 0 0 := by
  simp only [entryK, entryR]; ring

theorem entry_zero_pos :
    entryK dPP dPN dPP dPN C 0 G (-H) r 1 1 g
      = entryR dPP dPN dPP dPN C 0 G H (1 / 2) (1 / 2) 0 0 (r * g) (r * 1) 0 0 := by
  simp only [entryK, entryR]; ring

theorem entry_zero_neg :
    entryK dPP dPN dPP dPN C 0 H G r 1 1 g
      = entryR dPP dPN dPP dPN C 0 G H (1 / 2) (1 / 2) 0 0 0 0 (r * -g) (r * 1) := by
  simp only [entryK, entryR]; ring

theorem entry_zero_zero (hr : r * r = 1 / 2) :
    entryK dPP dPP dPP dPP C 0 G (-0) r r 1 1
      = entryR dPP dPP dPP dPP C 0 G 0 (1 / 2) (1 / 2) 0 0 (1 / 2) (1 / 2) 0 0 := by
  simp only [entryK, entryR]
  linear_combination (2 * C * G * dPP) * hr

end Cert.Wigner

end
-- ==== Proof.Entry.lean ====
/- One entry of the strip as a real number: the kernel's side of the equation. -/
module

public import proofs.«01_k».proof.Proof.Strip
public import proofs.«01_k».proof.Proof.AlphaTable
public import proofs.«01_k».proof.Proof.GammaTable
public import proofs.«01_k».proof.Proof.Equation

@[expose] public noncomputable section

set_option maxRecDepth 16384

namespace Cert.Wigner.Kernel

open Idealize.ShloMosaic Idealize.SL.Sem Cert.KernelIdeal Cert.KernelIdeal.Gen

/-- The selection table and the table of exponents, as the kernel's blocks hold them. -/
def signs : FVec Ideal S2x18x3584 .bf16 := fun i => Ideal.ofBits .bf16 (lit13 (S2x18x3584.rowMajor i))
def exps : FVec Ideal S3x81 .f32 := fun i => Ideal.ofBits .f32 (lit14 (S3x81.rowMajor i))

theorem exps_at (p : Fin 3) (q : Fin 81) : exps (ix2 p q) = ((expR ⟨p.val * 81 + q.val, by omega⟩ : ℝ) : EReal) := by
  have h : (S3x81.rowMajor (ix2 p q)).val = p.val * 81 + q.val := Shape.rowMajor_val_two _
  unfold exps
  rw [show S3x81.rowMajor (ix2 p q) = ⟨p.val * 81 + q.val, by omega⟩ from Fin.ext h]
  exact ofBits_eq_rv _ (exponents_finite _)

theorem cosExps_at (r : Fin 81) : cosExps (F := Ideal) exps (ix2 0 r) = ((powC r : ℝ) : EReal) := by
  have h : cosExps (F := Ideal) exps (ix2 0 r) = exps (ix2 0 r) :=
    congrArg exps (funext fun a => Fin.ext (by
      match a with
      | ⟨0, _⟩ => rfl
      | ⟨1, _⟩ => show 0 + 1 * r.val = r.val; omega))
  rw [h, exps_at]
  exact congrArg (fun n => ((expR n : ℝ) : EReal)) (Fin.ext (by show 0 * 81 + r.val = r.val; omega))

theorem sinExps_at (r : Fin 81) : sinExps (F := Ideal) exps (ix2 0 r) = ((powS r : ℝ) : EReal) := by
  have h : sinExps (F := Ideal) exps (ix2 0 r) = exps (ix2 1 r) :=
    congrArg exps (funext fun a => Fin.ext (by
      match a with
      | ⟨0, _⟩ => rfl
      | ⟨1, _⟩ => show 0 + 1 * r.val = r.val; omega))
  rw [h, exps_at]
  exact congrArg (fun n => ((expR n : ℝ) : EReal)) (Fin.ext (by show 1 * 81 + r.val = 81 + r.val; omega))

theorem orders_at (n : Fin 9) : orders (F := Ideal) exps (ix2 0 n) = ((ordN n : ℝ) : EReal) := by
  have h : orders (F := Ideal) exps (ix2 0 n) = exps (ix2 2 ⟨n.val, by omega⟩) :=
    congrArg exps (funext fun a => Fin.ext (by
      match a with
      | ⟨0, _⟩ => rfl
      | ⟨1, _⟩ => show 0 + 1 * n.val = n.val; omega))
  rw [h, exps_at]
  exact congrArg (fun n => ((expR n : ℝ) : EReal)) (Fin.ext (by show 2 * 81 + n.val = 162 + n.val; omega))

theorem alphaPick_at (k : Fin 18) (e : Fin 3584) : alphaPick (F := Ideal) signs (ix3 0 k e) = signs (ix3 0 k e) :=
  congrArg signs (funext fun a => Fin.ext (by
    match a with
    | ⟨0, _⟩ => rfl
    | ⟨1, _⟩ => show 0 + 1 * k.val = k.val; omega
    | ⟨2, _⟩ => show 0 + 1 * e.val = e.val; omega))

theorem gammaPick_at (k : Fin 18) (e : Fin 3584) : gammaPick (F := Ideal) signs (ix3 0 k e) = signs (ix3 1 k e) :=
  congrArg signs (funext fun a => Fin.ext (by
    match a with
    | ⟨0, _⟩ => rfl
    | ⟨1, _⟩ => show 0 + 1 * k.val = k.val; omega
    | ⟨2, _⟩ => show 0 + 1 * e.val = e.val; omega))

/-- The column with `σ` at row `p` and zeros elsewhere. -/
def one (p : Fin 18) (σ : ℝ) (k : Fin 18) : ℝ := if k = p then σ else 0

theorem sum_one (w : Fin 18 → ℝ) (p : Fin 18) (σ : ℝ) : ∑ k, w k * one p σ k = w p * σ := by
  unfold one
  simp only [mul_ite, mul_zero, Finset.sum_ite_eq', Finset.mem_univ, if_true]

theorem one_word (w W : BitVec 16) (p k : Fin 18) (σ : ℝ) (hW : Ideal.ofBits .bf16 W = ((σ : ℝ) : EReal))
    (h : w.toNat = oneW p W.toNat k) : Ideal.ofBits .bf16 w = ((one p σ k : ℝ) : EReal) := by
  unfold oneW at h
  unfold one
  by_cases e : k = p
  · rw [if_pos (congrArg Fin.val e)] at h
    rw [if_pos e, BitVec.eq_of_toNat_eq h, hW]
  · rw [if_neg fun e' => e (Fin.ext e')] at h
    rw [if_neg e, show w = 0x0000#16 from BitVec.eq_of_toNat_eq h, half_zero]

theorem signs_word (a : Fin 2) (k : Fin 18) (e : Fin 3584) :
    signs (ix3 a k e) = Ideal.ofBits .bf16 (lit13t ((a.val * 18 + k.val) * 3584 + e.val)) := by
  have h : (S2x18x3584.rowMajor (ix3 a k e)).val = (a.val * 18 + k.val) * 3584 + e.val := Shape.rowMajor_val_three _
  show Ideal.ofBits .bf16 (lit13t (S2x18x3584.rowMajor (ix3 a k e)).val) = _
  rw [h]

/-- What is picked at a checked column and at its mate in the second half. -/
theorem picked_plane (v : FVec Ideal S128x18 .f32) (t : FVec Ideal S1x18x3584 .bf16) (b : Fin 128) (w : Fin 18 → ℝ)
    (hv : ∀ k, v (ix2 b k) = ((w k : ℝ) : EReal)) (a : Fin 2) (ht : ∀ k e, t (ix3 0 k e) = signs (ix3 a k e))
    (e : Fin 1792) (p₁ p₂ : Fin 18) (W₁ W₂ : BitVec 16) (σ₁ σ₂ : ℝ) (h₁ : Ideal.ofBits .bf16 W₁ = ((σ₁ : ℝ) : EReal))
    (h₂ : Ideal.ofBits .bf16 W₂ = ((σ₂ : ℝ) : EReal)) (h : planeCheck a e p₁ W₁.toNat p₂ W₂.toNat = true) :
    picked v t (ix2 b ⟨e.val, by omega⟩) = ((w p₁ * σ₁ : ℝ) : EReal) ∧
    picked v t (ix2 b ⟨1792 + e.val, by omega⟩) = ((w p₂ * σ₂ : ℝ) : EReal) := by
  unfold planeCheck at h
  rw [List.all_eq_true] at h
  have hk := fun k : Fin 18 => h k.val (List.mem_range.2 k.isLt)
  simp only [Bool.and_eq_true, beq_iff_eq] at hk
  have hw : ∀ k e, t (ix3 0 k e) = Ideal.ofBits .bf16 (lit13t ((a.val * 18 + k.val) * 3584 + e.val)) := fun k e =>
    (ht k e).trans (signs_word a k e)
  generalize lit13t = L at hk hw
  constructor
  · rw [picked_entry v t b _ w (one p₁ σ₁) hv fun k => (hw k _).trans (one_word _ W₁ p₁ k σ₁ h₁ (hk k).1), sum_one]
  · rw [picked_entry v t b _ w (one p₂ σ₂) hv fun k => (hw k _).trans (one_word _ W₂ p₂ k σ₂ h₂ (hk k).2), sum_one]

/-- The cosine and the sine of `n` times an angle, in the waves. -/
theorem cat2_left (u v : Fin 9 → ℝ) (n : Fin 9) : cat2 u v ⟨n.val, by omega⟩ = u n := by
  unfold cat2
  rw [dif_pos (show n.val < 9 from n.isLt)]

theorem cat2_right (u v : Fin 9 → ℝ) (n : Fin 9) : cat2 u v ⟨9 + n.val, by omega⟩ = v n := by
  unfold cat2
  rw [dif_neg (show ¬ 9 + n.val < 9 by omega)]
  exact congrArg v (Fin.ext (by show 9 + n.val - 9 = n.val; omega))

/-- What the strip takes for alpha and for gamma in its two halves. -/
def selA (i : Fin 81) (x : ℝ) : ℝ := if ctr i ≤ i.val then Real.cos (x * ordN (muF i)) else -Real.sin (x * ordN (muF i))
def selA' (i : Fin 81) (x : ℝ) : ℝ := if ctr i ≤ i.val then Real.sin (x * ordN (muF i)) else Real.cos (x * ordN (muF i))
def selB (j : Fin 81) (x : ℝ) : ℝ := if ctr j ≤ j.val then Real.cos (x * ordN (muF j)) else Real.sin (x * ordN (muF j))
def selB' (j : Fin 81) (x : ℝ) : ℝ := if ctr j ≤ j.val then -Real.sin (x * ordN (muF j)) else Real.cos (x * ordN (muF j))

theorem alpha_entry (x0 : FVec Ideal S128x1 .f32) (b : Fin 128) (α : ℝ) (h0 : x0 (ix2 b 0) = (α : EReal)) (i j : Fin 81) (e : deg i = deg j) :
    picked (waves x0 (orders (F := Ideal) exps)) (alphaPick (F := Ideal) signs) (ix2 b ⟨colOf i j, by have := colOf_lt i j e; omega⟩) = ((selA i α : ℝ) : EReal) ∧
    picked (waves x0 (orders (F := Ideal) exps)) (alphaPick (F := Ideal) signs) (ix2 b ⟨1792 + colOf i j, by have := colOf_lt i j e; omega⟩) = ((selA' i α : ℝ) : EReal) := by
  have c := allPairs_apply alphaCheck_all i j e
  have hv := waves_entry x0 (orders (F := Ideal) exps) b α ordN h0 orders_at
  unfold alphaCheck at c
  unfold selA selA'
  by_cases hi : ctr i ≤ i.val
  · rw [if_pos hi] at c
    have h := picked_plane _ (alphaPick (F := Ideal) signs) b _ hv 0 alphaPick_at ⟨colOf i j, colOf_lt i j e⟩ ⟨(muF i).val, by omega⟩ ⟨9 + (muF i).val, by omega⟩
      0x3F80#16 0x3F80#16 1 1 half_one half_one c
    rw [cat2_left, cat2_right] at h
    rw [if_pos hi, if_pos hi]
    simpa using h
  · rw [if_neg hi] at c
    have h := picked_plane _ (alphaPick (F := Ideal) signs) b _ hv 0 alphaPick_at ⟨colOf i j, colOf_lt i j e⟩ ⟨9 + (muF i).val, by omega⟩ ⟨(muF i).val, by omega⟩
      0xBF80#16 0x3F80#16 (-1) 1 half_neg_one half_one c
    rw [cat2_left, cat2_right] at h
    rw [if_neg hi, if_neg hi]
    simpa using h

theorem gamma_entry (x2 : FVec Ideal S128x1 .f32) (b : Fin 128) (γ : ℝ) (h2 : x2 (ix2 b 0) = (γ : EReal)) (i j : Fin 81) (e : deg i = deg j) :
    picked (waves x2 (orders (F := Ideal) exps)) (gammaPick (F := Ideal) signs) (ix2 b ⟨colOf i j, by have := colOf_lt i j e; omega⟩) = ((selB j γ : ℝ) : EReal) ∧
    picked (waves x2 (orders (F := Ideal) exps)) (gammaPick (F := Ideal) signs) (ix2 b ⟨1792 + colOf i j, by have := colOf_lt i j e; omega⟩) = ((selB' j γ : ℝ) : EReal) := by
  have c := allPairs_apply gammaCheck_all i j e
  have hv := waves_entry x2 (orders (F := Ideal) exps) b γ ordN h2 orders_at
  unfold gammaCheck at c
  unfold selB selB'
  by_cases hj : ctr j ≤ j.val
  · rw [if_pos hj] at c
    have h := picked_plane _ (gammaPick (F := Ideal) signs) b _ hv 1 gammaPick_at ⟨colOf i j, colOf_lt i j e⟩ ⟨(muF j).val, by omega⟩ ⟨9 + (muF j).val, by omega⟩
      0x3F80#16 0xBF80#16 1 (-1) half_one half_neg_one c
    rw [cat2_left, cat2_right] at h
    rw [if_pos hj, if_pos hj]
    simpa using h
  · rw [if_neg hj] at c
    have h := picked_plane _ (gammaPick (F := Ideal) signs) b _ hv 1 gammaPick_at ⟨colOf i j, colOf_lt i j e⟩ ⟨9 + (muF j).val, by omega⟩ ⟨(muF j).val, by omega⟩
      0x3F80#16 0x3F80#16 1 1 half_one half_one c
    rw [cat2_left, cat2_right] at h
    rw [if_neg hj, if_neg hj]
    simpa using h

/-- Summed against the monomials, a combination of the coefficients is that of the small-d matrix. -/
theorem comb_sum {c s : ℝ} (hc : 0 < c) (hs : 0 < s) (i j : Fin 81) (e : deg i = deg j) (σ : ℝ) :
    ∑ r, monomial c s r * Host.combR σ r i j = 1 / 2 * Host.rootR i * Host.rootR j *
      (sg (mu i) * sg (mu j) * small c s (pos i) (pos j) + σ * (sg (mu i) * small c s (pos i) (neg j))
        + σ * (sg (mu j) * small c s (neg i) (pos j)) + 1 * small c s (neg i) (neg j)) := by
  have hp := Host.deg_pos i
  have hn := Host.deg_neg i
  have hp' := Host.deg_pos j
  have hn' := Host.deg_neg j
  rw [← strip_sum hc hs (pos i) (pos j) (by omega), ← strip_sum hc hs (pos i) (neg j) (by omega),
    ← strip_sum hc hs (neg i) (pos j) (by omega), ← strip_sum hc hs (neg i) (neg j) (by omega)]
  simp only [Finset.mul_sum, ← Finset.sum_add_distrib]
  exact Finset.sum_congr rfl fun r _ => by unfold Host.combR; ring

/-- The strip at the column of `(i, j)`. -/
theorem strip_entry (x0 x1 x2 : FVec Ideal S128x1 .f32) (b : Fin 128) (α β γ : ℝ) (h0 : x0 (ix2 b 0) = (α : EReal))
    (h1 : x1 (ix2 b 0) = (β : EReal)) (h2 : x2 (ix2 b 0) = (γ : EReal))
    (hc : 10633824 / 2 ^ 123 ≤ Real.cos (1 / 2 * β)) (hs : 10633824 / 2 ^ 123 ≤ Real.sin (1 / 2 * β))
    (i j : Fin 81) (e : deg i = deg j) :
    strip (F := Ideal) x0 x1 x2 Host.table signs exps (ix2 b ⟨colOf i j, colOf_lt i j e⟩)
      = ((entryK (small (Real.cos (1 / 2 * β)) (Real.sin (1 / 2 * β)) (pos i) (pos j)) (small (Real.cos (1 / 2 * β)) (Real.sin (1 / 2 * β)) (pos i) (neg j))
          (small (Real.cos (1 / 2 * β)) (Real.sin (1 / 2 * β)) (neg i) (pos j)) (small (Real.cos (1 / 2 * β)) (Real.sin (1 / 2 * β)) (neg i) (neg j))
          (selA i α) (selA' i α) (selB j γ) (selB' j γ) (Host.rootR i) (Host.rootR j) (sg (mu i)) (sg (mu j)) : ℝ) : EReal) := by
  have hlt := colOf_lt i j e
  have hb := fun r => Host.both_entry r ⟨colOf i j, hlt⟩
  have hX := fun r => (Host.comb_entry i j e r).1
  have hY := fun r => (Host.comb_entry i j e r).2
  have rX := rows_entry x1 (cosExps (F := Ideal) exps) (sinExps (F := Ideal) exps) Host.table b ⟨colOf i j, by omega⟩ β h1 cosExps_at sinExps_at hc hs
    (fun r => Host.combR 1 r i j) fun k => Host.table_apart k _ _ fun r => (hb r).1.trans (hX r)
  have rY := rows_entry x1 (cosExps (F := Ideal) exps) (sinExps (F := Ideal) exps) Host.table b ⟨1792 + colOf i j, by omega⟩ β h1 cosExps_at sinExps_at hc hs
    (fun r => Host.combR (-1) r i j) fun k => Host.table_apart k _ _ fun r => (hb r).2.trans (hY r)
  rw [comb_sum (by linarith [floor_pos]) (by linarith [floor_pos]) i j e] at rX rY
  obtain ⟨a1, a2⟩ := alpha_entry x0 b α h0 i j e
  obtain ⟨g1, g2⟩ := gamma_entry x2 b γ h2 i j e
  rw [strip_eq, joined_entry, shapeCast_self, shapeCast_self, shapeCast_self]
  rw [a1, a2, g1, g2, rX, rY]
  simp only [← EReal.coe_mul, ← EReal.coe_add]
  refine congrArg _ ?_
  unfold entryK
  ring

end Cert.Wigner.Kernel

end
-- ==== Proof.Array.lean ====
/- The kernel's result array: the blocks of the 32 grid points side by side, and each entry as the equation of the kernel at
   the angles of its row. -/
module

public import proofs.«01_k».proof.Proof.Stored
public import proofs.«01_k».proof.Proof.Laid
public import proofs.«01_k».proof.Proof.Entry

@[expose] public noncomputable section

set_option maxRecDepth 16384

namespace Cert.Wigner.Kernel

open Cert.KernelIdeal Cert.KernelIdeal.Gen Cert.KernelIdeal.Value Idealize.ShloMosaic Idealize.ShloMosaic.TcCoe Idealize.SL Idealize.SL.Sem
open Idealize.ShloMosaic.Pipeline (Dat)

variable (m : (ℓ : Loc nD τ sig) → Buf (Elt Ideal) ℓ) (c : Dev nD)

/-- Where the windows of the angles and of the result stand at a grid point. -/
theorem angle_index : ∀ t : Fin cfg0.N, (win0_0.index t 0 = t.val ∧ win0_0.index t 1 = 0) ∧ (win0_1.index t 0 = t.val ∧ win0_1.index t 1 = 0) ∧
    (win0_2.index t 0 = t.val ∧ win0_2.index t 1 = 0) :=
  (by decide +kernel : ∀ t : Fin grid0.N, (win0_0.index t 0 = t.val ∧ win0_0.index t 1 = 0) ∧ (win0_1.index t 0 = t.val ∧ win0_1.index t 1 = 0) ∧
    (win0_2.index t 0 = t.val ∧ win0_2.index t 1 = 0))

theorem result_index : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

theorem table_index : ∀ t : Fin cfg0.N, (win0_3.index t 0 = 0 ∧ win0_3.index t 1 = 0) ∧
    (win0_4.index t 0 = 0 ∧ win0_4.index t 1 = 0 ∧ win0_4.index t 2 = 0) ∧ (win0_5.index t 0 = 0 ∧ win0_5.index t 1 = 0) :=
  (by decide +kernel : ∀ t : Fin grid0.N, (win0_3.index t 0 = 0 ∧ win0_3.index t 1 = 0) ∧
    (win0_4.index t 0 = 0 ∧ win0_4.index t 1 = 0 ∧ win0_4.index t 2 = 0) ∧ (win0_5.index t 0 = 0 ∧ win0_5.index t 1 = 0))

theorem rows_lt (t : Fin cfg0.N) (b : Fin 128) : t.val * 128 + b.val < 4096 := by
  have h : t.val < 32 := t.isLt
  omega

/-- Row `b` of grid point `t` in the arrays. -/
def rowAt (t : Fin cfg0.N) (b : Fin 128) : Fin 4096 := ⟨t.val * 128 + b.val, rows_lt t b⟩

/-- A column of the angles at a row is the argument there. -/
theorem column_at (x : FVec Ideal S4096 .f32) (n : Fin 4096) : shapeCast S4096x1 x shapeCasts_S4096_S4096x1 (ix2 n 0) = x (ix1 n) := by
  rw [Idealize.ShloMosaic.shapeCast_apply _ _ (ix2 n (0 : Fin 1)) (ix1 n) ((Shape.rowMajor_val_one _).trans (by
    rw [show (S4096x1.rowMajor (ix2 n (0 : Fin 1))).val = _ from Shape.rowMajor_val_two _]
    show n.val = n.val * 1 + 0
    omega))]

theorem block_alpha (t : Fin cfg0.N) (b : Fin 128) :
    (iblk m c 0 t : FVec Ideal S128x1 .f32) (ix2 b 0) = (m ((c : Thread nD τ).loc main_arg0) : FVec Ideal S4096 .f32) (ix1 (rowAt t b)) := by
  have e : ((cfg0.win 0).blk t).view.emb (ix2 b (0 : Fin 1)) = (ix2 (rowAt t b) (0 : Fin 1) : S4096x1.Idx) := by
    obtain ⟨h0, h1⟩ := (angle_index t).1
    funext a
    apply Fin.ext
    match a with
    | ⟨0, _⟩ => show win0_0.index t (0 : Fin 2) * 128 + 1 * b.val = t.val * 128 + b.val; omega
    | ⟨1, _⟩ => show win0_0.index t (1 : Fin 2) * 1 + 1 * 0 = 0; omega
  show V m c main_call0_v0 (((cfg0.win 0).blk t).view.emb (ix2 b (0 : Fin 1))) = _
  rw [e, (Host.found_args m c).1]
  exact column_at _ _

theorem block_beta (t : Fin cfg0.N) (b : Fin 128) :
    (iblk m c 1 t : FVec Ideal S128x1 .f32) (ix2 b 0) = (m ((c : Thread nD τ).loc main_arg1) : FVec Ideal S4096 .f32) (ix1 (rowAt t b)) := by
  have e : ((cfg0.win 1).blk t).view.emb (ix2 b (0 : Fin 1)) = (ix2 (rowAt t b) (0 : Fin 1) : S4096x1.Idx) := by
    obtain ⟨h0, h1⟩ := (angle_index t).2.1
    funext a
    apply Fin.ext
    match a with
    | ⟨0, _⟩ => show win0_1.index t (0 : Fin 2) * 128 + 1 * b.val = t.val * 128 + b.val; omega
    | ⟨1, _⟩ => show win0_1.index t (1 : Fin 2) * 1 + 1 * 0 = 0; omega
  show V m c main_call0_v1 (((cfg0.win 1).blk t).view.emb (ix2 b (0 : Fin 1))) = _
  rw [e, (Host.found_args m c).2.1]
  exact column_at _ _

theorem block_gamma (t : Fin cfg0.N) (b : Fin 128) :
    (iblk m c 2 t : FVec Ideal S128x1 .f32) (ix2 b 0) = (m ((c : Thread nD τ).loc main_arg2) : FVec Ideal S4096 .f32) (ix1 (rowAt t b)) := by
  have e : ((cfg0.win 2).blk t).view.emb (ix2 b (0 : Fin 1)) = (ix2 (rowAt t b) (0 : Fin 1) : S4096x1.Idx) := by
    obtain ⟨h0, h1⟩ := (angle_index t).2.2
    funext a
    apply Fin.ext
    match a with
    | ⟨0, _⟩ => show win0_2.index t (0 : Fin 2) * 128 + 1 * b.val = t.val * 128 + b.val; omega
    | ⟨1, _⟩ => show win0_2.index t (1 : Fin 2) * 1 + 1 * 0 = 0; omega
  show V m c main_call0_v2 (((cfg0.win 2).blk t).view.emb (ix2 b (0 : Fin 1))) = _
  rw [e, (Host.found_args m c).2.2]
  exact column_at _ _

/-- The windows of the three tables are the whole tables. -/
theorem block_table (t : Fin cfg0.N) : (iblk m c 3 t : FVec Ideal S243x3584 .bf16) = Host.table := by
  obtain ⟨h0, h1⟩ := (table_index t).1
  funext k
  show V m c main_call0_v82 (((cfg0.win 3).blk t).view.emb k) = _
  rw [show ((cfg0.win 3).blk t).view.emb k = k from funext fun a => Fin.ext (by
    match a with
    | ⟨0, _⟩ => show win0_3.index t (0 : Fin 2) * 243 + 1 * (k 0).val = (k 0).val; omega
    | ⟨1, _⟩ => show win0_3.index t (1 : Fin 2) * 3584 + 1 * (k 1).val = (k 1).val; omega), Host.found_table]

theorem block_signs (t : Fin cfg0.N) : (iblk m c 4 t : FVec Ideal S2x18x3584 .bf16) = signs := by
  obtain ⟨h0, h1, h2⟩ := (table_index t).2.1
  funext k
  show V m c main_call0_cst_17 (((cfg0.win 4).blk t).view.emb k) = _
  rw [show ((cfg0.win 4).blk t).view.emb k = k from funext fun a => Fin.ext (by
    match a with
    | ⟨0, _⟩ => show win0_4.index t (0 : Fin 3) * 2 + 1 * (k 0).val = (k 0).val; omega
    | ⟨1, _⟩ => show win0_4.index t (1 : Fin 3) * 18 + 1 * (k 1).val = (k 1).val; omega
    | ⟨2, _⟩ => show win0_4.index t (2 : Fin 3) * 3584 + 1 * (k 2).val = (k 2).val; omega), Host.found_signs]
  rfl

theorem block_exps (t : Fin cfg0.N) : (iblk m c 5 t : FVec Ideal S3x81 .f32) = exps := by
  obtain ⟨h0, h1⟩ := (table_index t).2.2
  funext k
  show V m c main_call0_cst_18 (((cfg0.win 5).blk t).view.emb k) = _
  rw [show ((cfg0.win 5).blk t).view.emb k = k from funext fun a => Fin.ext (by
    match a with
    | ⟨0, _⟩ => show win0_5.index t (0 : Fin 2) * 3 + 1 * (k 0).val = (k 0).val; omega
    | ⟨1, _⟩ => show win0_5.index t (1 : Fin 2) * 81 + 1 * (k 1).val = (k 1).val; omega), Host.found_exps]
  rfl

/-- The result array at row `b` of grid point `t` is what the point stores at that row. -/
theorem array_block (t : Fin cfg0.N) (b : Fin 128) (i j : Fin 81) :
    ((dats m 0 c).arrAt 6 cfg0.N : FVec Ideal S4096x81x81 .f32) (ix3 (rowAt t b) i j)
      = View.canon (pieces (F := Ideal) (strip (F := Ideal) (iblk m c 0 t) (iblk m c 1 t) (iblk m c 2 t) Host.table signs exps)) (ix3 b i j) := by
  have hb := congrFun (blocks6 m c t (flush0_6 t)) (ix3 b i j)
  rw [flushed6_A, stored, angle_eq, angle_eq, angle_eq, coefs_eq, block_table, block_signs, block_exps] at hb
  have e : ((cfg0.win 6).blk t).view.emb (ix3 b i j) = (ix3 (rowAt t b) i j : S4096x81x81.Idx) := by
    obtain ⟨h0, h1, h2⟩ := result_index t
    funext a
    apply Fin.ext
    match a with
    | ⟨0, _⟩ => show win0_6.index t (0 : Fin 3) * 128 + 1 * b.val = t.val * 128 + b.val; omega
    | ⟨1, _⟩ => show win0_6.index t (1 : Fin 3) * 81 + 1 * i.val = i.val; omega
    | ⟨2, _⟩ => show win0_6.index t (2 : Fin 3) * 81 + 1 * j.val = j.val; omega
  rw [← e]
  exact hb

end Cert.Wigner.Kernel

end
-- ==== Proof.ReferenceStages.lean ====
/- The stages of the reference: the sum of the terms of the small-d matrices, the two phases, the complex matrix as real
   and imaginary part, the change to the real basis as real and imaginary part, and the result. Its result is theirs. -/
module

public import proofs.«01_k».proof.Proof.Gen.ReferenceIdeal.Run
public import Idealize.ShloMosaic.Lib.Pointwise
public import Idealize.ShloMosaic.Lib.Routing.OpsPair

@[expose] public noncomputable section

set_option maxRecDepth 16384

namespace Cert.Wigner.Reference

open Idealize.ShloMosaic Cert.ReferenceIdeal Cert.ReferenceIdeal.Gen

/-- The rows and the columns of the terms, side by side. -/
def places : IVec S2685x2 32 :=
  concatenate S2685x2 1
    [⟨S2685x1, broadcastInDim S2685x1 ![0] bcast_S2685_S2685x1_0
        (select (constantI S2685 1 0#1)
          (addi (fun i => lit3 (S2685.rowMajor i)) (broadcastInDim S2685 ![] bcast_S_S2685 (constantI S_ 32 81#32)))
          fun i => lit3 (S2685.rowMajor i))⟩,
      ⟨S2685x1, broadcastInDim S2685x1 ![0] bcast_S2685_S2685x1_0
        (select (constantI S2685 1 0#1)
          (addi (fun i => lit4 (S2685.rowMajor i)) (broadcastInDim S2685 ![] bcast_S_S2685 (constantI S_ 32 81#32)))
          fun i => lit4 (S2685.rowMajor i))⟩]
    concatenates_S2685x1_S2685x1_S2685x2_d1

/-- One number per angle and term: `coeff * cos(beta/2)^p * sin(beta/2)^q`. -/
def terms (x1 : FVec Ideal S4096 .f32) : FVec Ideal S4096x2685 .f32 :=
  mulf
    (mulf
      (broadcastInDim S4096x2685 ![0, 1] bcast_S1x2685_S4096x2685_0_1
        (broadcastInDim S1x2685 ![1] bcast_S2685_S1x2685_1 fun i => FloatOps.ofBits FTy.f32 (lit1 (S2685.rowMajor i))))
      (Host.powf
        (broadcastInDim S4096x2685 ![0, 1] bcast_S4096x1_S4096x2685_0_1
          (broadcastInDim S4096x1 ![0] bcast_S4096_S4096x1_0
            (Host.cos (Host.divf x1 (broadcastInDim S4096 ![] bcast_S_S4096 (constant S_ FTy.f32 0x40000000#32))))))
        (broadcastInDim S4096x2685 ![0, 1] bcast_S1x2685_S4096x2685_0_1
          (broadcastInDim S1x2685 ![1] bcast_S2685_S1x2685_1 fun i => FloatOps.ofBits FTy.f32 (lit0 (S2685.rowMajor i))))))
    (Host.powf
      (broadcastInDim S4096x2685 ![0, 1] bcast_S4096x1_S4096x2685_0_1
        (broadcastInDim S4096x1 ![0] bcast_S4096_S4096x1_0
          (Host.sin (Host.divf x1 (broadcastInDim S4096 ![] bcast_S_S4096 (constant S_ FTy.f32 0x40000000#32))))))
      (broadcastInDim S4096x2685 ![0, 1] bcast_S1x2685_S4096x2685_0_1
        (broadcastInDim S1x2685 ![1] bcast_S2685_S1x2685_1 fun i => FloatOps.ofBits FTy.f32 (lit2 (S2685.rowMajor i)))))

/-- The small-d matrices: each term added at its row and column. -/
def smallD (x1 : FVec Ideal S4096 .f32) : FVec Ideal S4096x81x81 .f32 :=
  Host.scatterAdd scatter_S4096x81x81_S2685x2_S4096x2685_0_12_12_1
    (broadcastInDim S4096x81x81 ![] bcast_S_S4096x81x81 (constant S_ FTy.f32 0x00000000#32)) places (terms x1)

/-- Order times angle. -/
def phase (l : Fin 81 → BitVec 32) (x : FVec Ideal S4096 .f32) : FVec Ideal S4096x81 .f32 :=
  mulf (broadcastInDim S4096x81 ![0, 1] bcast_S1x81_S4096x81_0_1
      (broadcastInDim S1x81 ![1] bcast_S81_S1x81_1 fun i => FloatOps.ofBits FTy.f32 (l (S81.rowMajor i))))
    (broadcastInDim S4096x81 ![0, 1] bcast_S4096x1_S4096x81_0_1 (broadcastInDim S4096x1 ![0] bcast_S4096_S4096x1_0 x))

/-- The phase of alpha, and minus its sine, times the small-d matrix. -/
def ePart (x0 x1 : FVec Ideal S4096 .f32) : FVec Ideal S4096x81x81 .f32 :=
  mulf (broadcastInDim S4096x81x81 ![0, 1, 2] bcast_S4096x81x1_S4096x81x81_0_1_2
    (broadcastInDim S4096x81x1 ![0, 1] bcast_S4096x81_S4096x81x1_0_1 (Host.cos (phase lit5 x0)))) (smallD x1)

def ePartI (x0 x1 : FVec Ideal S4096 .f32) : FVec Ideal S4096x81x81 .f32 :=
  mulf (broadcastInDim S4096x81x81 ![0, 1, 2] bcast_S4096x81x1_S4096x81x81_0_1_2
    (Host.negf (broadcastInDim S4096x81x1 ![0, 1] bcast_S4096x81_S4096x81x1_0_1 (Host.sin (phase lit5 x0))))) (smallD x1)

/-- The phase of gamma, along the columns: its cosine, and minus its sine. -/
def gPart (x2 : FVec Ideal S4096 .f32) : FVec Ideal S4096x81x81 .f32 :=
  broadcastInDim S4096x81x81 ![0, 1, 2] bcast_S4096x1x81_S4096x81x81_0_1_2
    (broadcastInDim S4096x1x81 ![0, 2] bcast_S4096x81_S4096x1x81_0_2 (Host.cos (phase lit6 x2)))

def gPartI (x2 : FVec Ideal S4096 .f32) : FVec Ideal S4096x81x81 .f32 :=
  broadcastInDim S4096x81x81 ![0, 1, 2] bcast_S4096x1x81_S4096x81x81_0_1_2
    (Host.negf (broadcastInDim S4096x1x81 ![0, 2] bcast_S4096x81_S4096x1x81_0_2 (Host.sin (phase lit6 x2))))

/-- The complex matrix, its real and its imaginary part. -/
def bigD (x0 x1 x2 : FVec Ideal S4096 .f32) : FVec Ideal S4096x81x81 .f32 :=
  subf (mulf (ePart x0 x1) (gPart x2)) (mulf (ePartI x0 x1) (gPartI x2))

def bigDI (x0 x1 x2 : FVec Ideal S4096 .f32) : FVec Ideal S4096x81x81 .f32 :=
  addf (mulf (ePart x0 x1) (gPartI x2)) (mulf (ePartI x0 x1) (gPart x2))

/-- The change to the real basis, from a table of signs: its rows scaled by 1/sqrt 2 but for those of order 0. -/
def basis (l : Fin 6561 → BitVec 32) : FVec Ideal S81x81 .f32 :=
  mulf
    (broadcastInDim S81x81 ![0, 1] bcast_S81x1_S81x81_0_1
      (broadcastInDim S81x1 ![0] bcast_S81_S81x1_0
        (select (fun i => lit7 (S81.rowMajor i))
          (broadcastInDim S81 ![] bcast_S_S81 (id (constant S_ FTy.f32 0x3F800000#32)))
          (broadcastInDim S81 ![] bcast_S_S81
            (Host.divf (constant S_ FTy.f32 0x3F800000#32) (Host.sqrt (constant S_ FTy.f32 0x40000000#32)))))))
    fun i => FloatOps.ofBits FTy.f32 (l (S81x81.rowMajor i))

/-- The basis change from the left. -/
def leftMul (d : FVec Ideal S4096x81x81 .f32) (u : FVec Ideal S81x81 .f32) : FVec Ideal S4096x81x81 .f32 :=
  transpose S4096x81x81 [0, 2, 1] (Host.dotGeneral dot_S4096x81x81_S81x81_S4096x81x81_1_1_02_0_n_n none d u)
    transposes_S4096x81x81_S4096x81x81_0_2_1

/-- The result. -/
def result (x0 x1 x2 : FVec Ideal S4096 .f32) : FVec Ideal S4096x81x81 .f32 :=
  addf
    (Host.dotGeneral dot_S4096x81x81_S81x81_S4096x81x81_2_1_01_0_n_n none
      (subf (leftMul (bigD x0 x1 x2) (basis lit8)) (leftMul (bigDI x0 x1 x2) (basis lit9))) (basis lit8))
    (Host.dotGeneral dot_S4096x81x81_S81x81_S4096x81x81_2_1_01_0_n_n none
      (addf (leftMul (bigDI x0 x1 x2) (basis lit8)) (leftMul (bigD x0 x1 x2) (basis lit9))) (basis lit9))

/-- The generated run's term is the result of the stages. -/
theorem res_eq (m : (ℓ : Loc nD τ sig) → Buf (Elt Ideal) ℓ) (c : Dev nD) :
    Cert.ReferenceIdeal.Value.res_main_v85 m c
      = result (m ((c.tc : Thread nD τ).loc main_arg0)) (m ((c.tc : Thread nD τ).loc main_arg1)) (m ((c.tc : Thread nD τ).loc main_arg2)) := rfl

end Cert.Wigner.Reference

end
-- ==== Proof.ReferenceValue.lean ====
/- What the reference computes: its entry `(i, j)` of matrix `b`, for real angles, as a real number. -/
module

public import proofs.«01_k».proof.Proof.ReferenceStages
public import proofs.«01_k».proof.Proof.Unitary
public import proofs.«01_k».proof.Proof.Equation

@[expose] public noncomputable section

set_option maxRecDepth 16384

namespace Cert.Wigner.Reference

open Idealize.ShloMosaic Cert.ReferenceIdeal Cert.ReferenceIdeal.Gen

theorem rm1 {n : Nat} (t : Fin n) : ((⟨1, ![n]⟩ : Shape).rowMajor (ix1 t)).val = t.val := Shape.rowMajor_val_one _

/-- The words that place term `t`. -/
theorem places_row (t : Fin 2685) : places (ix2 t 0) = lit3 t := by
  pointwise [places]
  exact congrArg lit3 (Fin.ext (rm1 t))

theorem places_col (t : Fin 2685) : places (ix2 t 1) = lit4 t := by
  pointwise [places]
  exact congrArg lit4 (Fin.ext (rm1 t))

/-- Term `t` of matrix `b`. -/
theorem terms_entry (x1 : FVec Ideal S4096 .f32) (b : Fin 4096) (t : Fin 2685) (β : ℝ) (h : x1 (ix1 b) = (β : EReal)) :
    terms x1 (ix2 b t) = ((termR (Real.cos (β / 2)) (Real.sin (β / 2)) t : ℝ) : EReal) := by
  pointwise [terms]
  rw [show S2685.rowMajor (ix1 t) = t from Fin.ext (rm1 t), h, word_two, Ideal.div_coe (by norm_num), ← EReal.coe_mul, show β * (1 / 2) = β / 2 by ring, Ideal.cos_coe, Ideal.sin_coe]
  obtain ⟨i, j, r, T⟩ := termAt t
  rw [ofBits_eq_rv _ T.coefFin, ofBits_eq_rv (lit0 t) (by rw [T.ec]; exact exponents_finite _),
    ofBits_eq_rv (lit2 t) (by rw [T.es]; exact exponents_finite _), Ideal.pow_coe_coe, Ideal.pow_coe_coe, ← EReal.coe_mul, ← EReal.coe_mul]
  rfl

/-- Where an update of the sum of terms lands. -/
theorem lands (idx : IVec S2685x2 32) (b b' : Fin 4096) (t : Fin 2685) (i j : Fin 81) :
    scatter_S4096x81x81_S2685x2_S4096x2685_0_12_12_1.resultIdx? (ix2 b t) idx = some (ix3 b' i j)
      ↔ b = b' ∧ (idx (ix2 t 0)).toInt = i.val ∧ (idx (ix2 t 1)).toInt = j.val := by
  rw [Routing.resultIdx?_eq_some]
  have s0 : scatter_S4096x81x81_S2685x2_S4096x2685_0_12_12_1.start (ix2 b t) idx 0 = 0 := rfl
  have w0 : scatter_S4096x81x81_S2685x2_S4096x2685_0_12_12_1.window (ix2 b t) 0 = b.val := rfl
  have w1 : scatter_S4096x81x81_S2685x2_S4096x2685_0_12_12_1.window (ix2 b t) 1 = 0 := rfl
  have w2 : scatter_S4096x81x81_S2685x2_S4096x2685_0_12_12_1.window (ix2 b t) 2 = 0 := rfl
  have s1 : scatter_S4096x81x81_S2685x2_S4096x2685_0_12_12_1.start (ix2 b t) idx 1 = (idx (ix2 t 0)).toInt := by
    show (idx _).toInt = _
    congr 2
    funext a
    match a with
    | ⟨0, _⟩ => rfl
    | ⟨1, _⟩ => rfl
  have s2 : scatter_S4096x81x81_S2685x2_S4096x2685_0_12_12_1.start (ix2 b t) idx 2 = (idx (ix2 t 1)).toInt := by
    show (idx _).toInt = _
    congr 2
    funext a
    match a with
    | ⟨0, _⟩ => rfl
    | ⟨1, _⟩ => rfl
  have e0 : ((ix3 b' i j 0).val : Int) = b'.val := rfl
  have e1 : ((ix3 b' i j 1).val : Int) = i.val := rfl
  have e2 : ((ix3 b' i j 2).val : Int) = j.val := rfl
  constructor
  · intro h
    have h0 := h 0
    have h1 := h 1
    have h2 := h 2
    rw [s0, w0, e0] at h0
    rw [s1, w1, e1] at h1
    rw [s2, w2, e2] at h2
    exact ⟨Fin.ext (by omega), by omega, by omega⟩
  · rintro ⟨rfl, h1, h2⟩ a
    match a with
    | ⟨0, _⟩ => exact (congrArg₂ (· + ·) s0 (congrArg Nat.cast w0)).trans (by simp)
    | ⟨1, _⟩ => exact (congrArg₂ (· + ·) s1 (congrArg Nat.cast w1)).trans (by rw [h1]; simp)
    | ⟨2, _⟩ => exact (congrArg₂ (· + ·) s2 (congrArg Nat.cast w2)).trans (by rw [h2]; simp)

theorem toInt_small (w : BitVec 32) (n : Fin 81) (i : Fin 81) (h : w.toNat = n.val) : w.toInt = i.val ↔ w.toNat = i.val := by
  rw [BitVec.toInt_eq_toNat_of_lt (by omega)]
  omega

/-- The small-d matrix. -/
theorem smallD_entry (x1 : FVec Ideal S4096 .f32) (β : Fin 4096 → ℝ) (h : ∀ b, x1 (ix1 b) = (β b : EReal)) (b : Fin 4096) (i j : Fin 81) :
    smallD x1 (ix3 b i j) = ((small (Real.cos (β b / 2)) (Real.sin (β b / 2)) i j : ℝ) : EReal) := by
  unfold smallD
  show Ideal.hostScatterAdd _ _ _ _ _ = _
  unfold Ideal.hostScatterAdd
  rw [Finset.sum_filter, sum_idx2]
  have hz : (broadcastInDim S4096x81x81 ![] bcast_S_S4096x81x81 (constant (F := Ideal) S_ FTy.f32 0x00000000#32)) (ix3 b i j) = ((0 : ℝ) : EReal) := by
    pointwise
    rfl
  have hin : ∀ (b' : Fin 4096) (t : Fin 2685),
      (if scatter_S4096x81x81_S2685x2_S4096x2685_0_12_12_1.resultIdx? (ix2 b' t) places = some (ix3 b i j) then terms x1 (ix2 b' t) else 0)
        = ((if b' = b then (if (lit3 t).toNat = i.val ∧ (lit4 t).toNat = j.val then termR (Real.cos (β b / 2)) (Real.sin (β b / 2)) t else 0) else 0 : ℝ) : EReal) := by
    intro b' t
    obtain ⟨i', j', r', T⟩ := termAt t
    have hl := lands places b' b t i j
    rw [places_row, places_col, toInt_small _ i' i T.row, toInt_small _ j' j T.col] at hl
    by_cases hb : b' = b
    · subst hb
      by_cases hij : (lit3 t).toNat = i.val ∧ (lit4 t).toNat = j.val
      · rw [if_pos (hl.2 ⟨rfl, hij⟩), if_pos rfl, if_pos hij, terms_entry x1 b' t _ (h b')]
      · rw [if_neg fun q => hij (hl.1 q).2, if_pos rfl, if_neg hij, EReal.coe_zero]
    · rw [if_neg fun q => hb (hl.1 q).1, if_neg hb, EReal.coe_zero]
  rw [hz]
  simp only [hin, coe_sum]
  rw [← EReal.coe_add, zero_add, Finset.sum_eq_single b]
  · simp only [if_true]
    rfl
  · intro b' _ hb
    refine Finset.sum_eq_zero fun t _ => if_neg hb
  · intro q; exact absurd (Finset.mem_univ _) q

/-- Order times angle. -/
theorem phase_entry (x : FVec Ideal S4096 .f32) (b : Fin 4096) (i : Fin 81) (α : ℝ) (h : x (ix1 b) = (α : EReal)) :
    phase lit5 x (ix2 b i) = ((ordAt i * α : ℝ) : EReal) ∧ phase lit6 x (ix2 b i) = ((ordAt i * α : ℝ) : EReal) := by
  constructor
  · pointwise [phase]
    rw [show S81.rowMajor (ix1 i) = i from Fin.ext (rm1 i), order_word, h, ← EReal.coe_mul]
  · pointwise [phase]
    rw [show S81.rowMajor (ix1 i) = i from Fin.ext (rm1 i), order_word', order_word, h, ← EReal.coe_mul]

/-- The complex matrix. -/
def reD (α γ : ℝ) (d : Fin 81 → Fin 81 → ℝ) (i j : Fin 81) : ℝ :=
  Real.cos (ordAt i * α) * d i j * Real.cos (ordAt j * γ) - -Real.sin (ordAt i * α) * d i j * -Real.sin (ordAt j * γ)
def imD (α γ : ℝ) (d : Fin 81 → Fin 81 → ℝ) (i j : Fin 81) : ℝ :=
  Real.cos (ordAt i * α) * d i j * -Real.sin (ordAt j * γ) + -Real.sin (ordAt i * α) * d i j * Real.cos (ordAt j * γ)

variable (x0 x1 x2 : FVec Ideal S4096 .f32) (α β γ : Fin 4096 → ℝ) (h0 : ∀ b, x0 (ix1 b) = (α b : EReal))
  (h1 : ∀ b, x1 (ix1 b) = (β b : EReal)) (h2 : ∀ b, x2 (ix1 b) = (γ b : EReal))

/-- The small-d matrix of the angle `β`. -/
def dOf (β : ℝ) (i j : Fin 81) : ℝ := small (Real.cos (β / 2)) (Real.sin (β / 2)) i j

include h0 h1 h2 in
theorem big_entry (b : Fin 4096) (i j : Fin 81) :
    bigD x0 x1 x2 (ix3 b i j) = ((reD (α b) (γ b) (dOf (β b)) i j : ℝ) : EReal) ∧
    bigDI x0 x1 x2 (ix3 b i j) = ((imD (α b) (γ b) (dOf (β b)) i j : ℝ) : EReal) := by
  constructor
  · pointwise [bigD, ePart, ePartI, gPart, gPartI]
    rw [smallD_entry x1 β h1, (phase_entry x0 b i _ (h0 b)).1, (phase_entry x2 b j _ (h2 b)).2, Ideal.cos_coe, Ideal.sin_coe, Ideal.cos_coe, Ideal.sin_coe]
    rfl
  · pointwise [bigDI, ePart, ePartI, gPart, gPartI]
    rw [smallD_entry x1 β h1, (phase_entry x0 b i _ (h0 b)).1, (phase_entry x2 b j _ (h2 b)).2, Ideal.cos_coe, Ideal.sin_coe, Ideal.cos_coe, Ideal.sin_coe]
    rfl

/-- The factor of row `i`. -/
theorem scale_entry (i : Fin 81) :
    Scalar.select (lit7 i) (Ideal.ofBits .f32 0x3F800000#32) (Ideal.div 1 (Ideal.sqrt (Ideal.ofBits .f32 0x40000000#32)))
      = ((scale i : ℝ) : EReal) := by
  have h := orderCheck_all i
  simp only [orderCheck, Bool.and_eq_true, beq_iff_eq] at h
  have h7 := h.2
  unfold scale
  by_cases hm : mu i = 0
  · rw [if_pos hm] at h7 ⊢
    rw [show lit7 i = 1#1 from BitVec.eq_of_toNat_eq h7, word_one]
    rfl
  · rw [if_neg hm] at h7 ⊢
    rw [show lit7 i = 0#1 from BitVec.eq_of_toNat_eq h7, word_two, Ideal.sqrt_coe, if_neg (by norm_num),
      show (1 : EReal) = ((1 : ℝ) : EReal) from rfl, Ideal.div_coe (by positivity), ← EReal.coe_mul, one_mul]
    rfl

/-- The change of basis. -/
theorem basis_entry (i k : Fin 81) :
    basis lit8 (ix2 i k) = ((two (pos i) (neg i) (ca i) (cb i) k : ℝ) : EReal) ∧
    basis lit9 (ix2 i k) = ((two (pos i) (neg i) (da i) (db i) k : ℝ) : EReal) := by
  have hk : ∀ l : Fin 6561 → BitVec 32, basis l (ix2 i k) = ((scale i : ℝ) : EReal) * Ideal.ofBits .f32 (l ⟨i * 81 + k, by omega⟩) := by
    intro l
    have e2 : S81x81.rowMajor (ix2 i k) = ⟨i * 81 + k, by have : S81x81.numel = 6561 := rfl; omega⟩ := Fin.ext (Shape.rowMajor_val_two _)
    pointwise [basis]
    rw [e2, show S81.rowMajor (ix1 i) = i from Fin.ext (rm1 i)]
    exact congrArg (· * _) (scale_entry i)
  have hw := row_words i k
  exact ⟨(hk lit8).trans (re_entry i k _ hw.1), (hk lit9).trans (im_entry i k _ hw.2)⟩

/-- A product with the change of basis, from the left, has two terms. -/
theorem left_entry (d : FVec Ideal S4096x81x81 .f32) (u : FVec Ideal S81x81 .f32) (b : Fin 4096) (i k p n : Fin 81) (f : Fin 81 → ℝ) (a a' : ℝ)
    (hd : ∀ x, d (ix3 b x k) = (f x : EReal)) (hu : ∀ x, u (ix2 i x) = ((two p n a a' x : ℝ) : EReal)) :
    leftMul d u (ix3 b i k) = ((f p * a + f n * a' : ℝ) : EReal) := by
  pointwise [leftMul]
  simp only [hd, hu, ← EReal.coe_mul, coe_sum, sum_two]

/-- A sum against the change of basis has two terms. -/
theorem right_sum (u : FVec Ideal S81x81 .f32) (j p n : Fin 81) (f : Fin 81 → EReal) (g : Fin 81 → ℝ) (a a' : ℝ)
    (hf : ∀ x, f x = (g x : EReal)) (hu : ∀ x, u (ix2 j x) = ((two p n a a' x : ℝ) : EReal)) :
    ∑ x, f x * u (ix2 j x) = ((g p * a + g n * a' : ℝ) : EReal) := by
  simp only [hf, hu, ← EReal.coe_mul, coe_sum, sum_two]

include h0 h1 h2 in
/-- The reference's entry. -/
theorem result_entry (b : Fin 4096) (i j : Fin 81) :
    result x0 x1 x2 (ix3 b i j) = ((entryR (dOf (β b) (pos i) (pos j)) (dOf (β b) (pos i) (neg j)) (dOf (β b) (neg i) (pos j))
      (dOf (β b) (neg i) (neg j)) (Real.cos (ordN (muF i) * α b)) (Real.sin (ordN (muF i) * α b)) (Real.cos (ordN (muF j) * γ b))
      (Real.sin (ordN (muF j) * γ b)) (ca i) (cb i) (da i) (db i) (ca j) (cb j) (da j) (db j) : ℝ) : EReal) := by
  have hB := fun x k => (big_entry x0 x1 x2 α β γ h0 h1 h2 b x k).1
  have hI := fun x k => (big_entry x0 x1 x2 α β γ h0 h1 h2 b x k).2
  have u8 := fun i k => (basis_entry i k).1
  have u9 := fun i k => (basis_entry i k).2
  pointwise [result]
  rw [right_sum _ j (pos j) (neg j) _ _ (ca j) (cb j) (fun k => by
        rw [left_entry _ _ b i k (pos i) (neg i) _ (ca i) (cb i) (fun x => hB x k) (u8 i),
          left_entry _ _ b i k (pos i) (neg i) _ (da i) (db i) (fun x => hI x k) (u9 i), ← EReal.coe_sub]) (u8 j),
    right_sum _ j (pos j) (neg j) _ _ (da j) (db j) (fun k => by
        rw [left_entry _ _ b i k (pos i) (neg i) _ (ca i) (cb i) (fun x => hI x k) (u8 i),
          left_entry _ _ b i k (pos i) (neg i) _ (da i) (db i) (fun x => hB x k) (u9 i), ← EReal.coe_add]) (u9 j), ← EReal.coe_add]
  unfold reD imD
  simp only [ordAt_pos, ordAt_neg, neg_mul, Real.cos_neg, Real.sin_neg, neg_neg]
  unfold entryR
  simp only [neg_mul]

end Cert.Wigner.Reference

end
-- ==== Proof.Match.lean ====
/- The kernel's entry is the reference's entry: the nine cases of the equation, by the sign of the row's order and of the
   column's order, for any matrix in the place of the small-d matrix; and the reference's entry outside the squares is 0. -/
module

public import proofs.«01_k».proof.Proof.Entry
public import proofs.«01_k».proof.Proof.ReferenceValue

@[expose] public noncomputable section

namespace Cert.Wigner

open Cert.Wigner.Kernel (selA selA' selB selB')
open Cert.Wigner.Host (rootR)

/-- What is known of a row of positive order. -/
theorem row_pos (i : Fin 81) (h : ctr i < i.val) : rootR i = 1 ∧ ca i = r2 * sg (mu i) ∧ cb i = r2 * 1 ∧ da i = 0 ∧ db i = 0 := by
  have hm : mu i ≠ 0 := by unfold mu posOf; rw [if_neg (by omega)]; omega
  refine ⟨?_, ?_, ?_, ?_, ?_⟩
  · unfold rootR; rw [if_neg hm]
  · unfold ca; rw [if_pos h]
  · unfold cb; rw [if_pos h]
  · unfold da; rw [if_neg (by omega)]
  · unfold db; rw [if_neg (by omega)]

/-- What is known of a row of negative order. -/
theorem row_neg (i : Fin 81) (h : i.val < ctr i) : rootR i = 1 ∧ ca i = 0 ∧ cb i = 0 ∧ da i = r2 * -sg (mu i) ∧ db i = r2 * 1 := by
  have hm : mu i ≠ 0 := by unfold mu posOf; rw [if_pos h]; omega
  refine ⟨?_, ?_, ?_, ?_, ?_⟩
  · unfold rootR; rw [if_neg hm]
  · unfold ca; rw [if_neg (by omega), if_neg (by omega)]
  · unfold cb; rw [if_neg (by omega), if_neg (by omega)]
  · unfold da; rw [if_pos h]
  · unfold db; rw [if_pos h]

/-- What is known of a row of order zero. -/
theorem row_zero (i : Fin 81) (h : i.val = ctr i) : rootR i = r2 ∧ ca i = 1 / 2 ∧ cb i = 1 / 2 ∧ da i = 0 ∧ db i = 0 ∧
    pos i = i ∧ neg i = i ∧ sg (mu i) = 1 ∧ ordN (muF i) = 0 := by
  have hp : posOf i = i.val := by unfold posOf; rw [if_neg (by omega)]
  have hn : negOf i = i.val := by unfold negOf; rw [if_neg (by omega)]; omega
  have hm : mu i = 0 := by unfold mu; omega
  refine ⟨?_, ?_, ?_, ?_, ?_, Fin.ext hp, Fin.ext hn, ?_, ?_⟩
  · unfold rootR; rw [if_pos hm]
  · unfold ca; rw [if_neg (by omega), if_pos h]
  · unfold cb; rw [if_neg (by omega), if_pos h]
  · unfold da; rw [if_neg (by omega)]
  · unfold db; rw [if_neg (by omega)]
  · rw [hm]; rfl
  · rw [show muF i = 0 from Fin.ext hm, ordN_zero]

/-- The selections at a row of order at least zero and at one of negative order. -/
theorem sel_up (i : Fin 81) (x : ℝ) (h : ctr i ≤ i.val) :
    selA i x = Real.cos (ordN (muF i) * x) ∧ selA' i x = Real.sin (ordN (muF i) * x) ∧
    selB i x = Real.cos (ordN (muF i) * x) ∧ selB' i x = -Real.sin (ordN (muF i) * x) := by
  unfold selA selA' selB selB'
  simp only [if_pos h, mul_comm x, and_self]

theorem sel_down (i : Fin 81) (x : ℝ) (h : i.val < ctr i) :
    selA i x = -Real.sin (ordN (muF i) * x) ∧ selA' i x = Real.cos (ordN (muF i) * x) ∧
    selB i x = Real.sin (ordN (muF i) * x) ∧ selB' i x = Real.cos (ordN (muF i) * x) := by
  unfold selA selA' selB selB'
  simp only [if_neg (Nat.not_le.2 h), mul_comm x, and_self]

/-- The equation at an entry. -/
theorem entries_agree (D : Fin 81 → Fin 81 → ℝ) (α γ : ℝ) (i j : Fin 81) :
    entryK (D (pos i) (pos j)) (D (pos i) (neg j)) (D (neg i) (pos j)) (D (neg i) (neg j))
      (selA i α) (selA' i α) (selB j γ) (selB' j γ) (rootR i) (rootR j) (sg (mu i)) (sg (mu j))
    = entryR (D (pos i) (pos j)) (D (pos i) (neg j)) (D (neg i) (pos j)) (D (neg i) (neg j))
      (Real.cos (ordN (muF i) * α)) (Real.sin (ordN (muF i) * α)) (Real.cos (ordN (muF j) * γ)) (Real.sin (ordN (muF j) * γ))
      (ca i) (cb i) (da i) (db i) (ca j) (cb j) (da j) (db j) := by
  rcases Nat.lt_trichotomy (ctr i) i.val with hi | hi | hi
  · obtain ⟨a1, a2, a3, a4, a5⟩ := row_pos i hi
    obtain ⟨s1, s2, -, -⟩ := sel_up i α hi.le
    rw [s1, s2, a1, a2, a3, a4, a5]
    rcases Nat.lt_trichotomy (ctr j) j.val with hj | hj | hj
    · obtain ⟨b1, b2, b3, b4, b5⟩ := row_pos j hj
      obtain ⟨-, -, t1, t2⟩ := sel_up j γ hj.le
      rw [t1, t2, b1, b2, b3, b4, b5]
      exact entry_pos_pos _ _ _ _ _ _ _ _ _ _ _ r2_mul
    · obtain ⟨b1, b2, b3, b4, b5, b6, b7, b8, b9⟩ := row_zero j hj.symm
      obtain ⟨-, -, t1, t2⟩ := sel_up j γ hj.le
      rw [t1, t2, b1, b2, b3, b4, b5, b6, b7, b8, b9, zero_mul, Real.sin_zero]
      exact entry_pos_zero _ _ _ _ _ _ _
    · obtain ⟨b1, b2, b3, b4, b5⟩ := row_neg j hj
      obtain ⟨-, -, t1, t2⟩ := sel_down j γ hj
      rw [t1, t2, b1, b2, b3, b4, b5]
      exact entry_pos_neg _ _ _ _ _ _ _ _ _ _ _ r2_mul
  · obtain ⟨a1, a2, a3, a4, a5, a6, a7, a8, a9⟩ := row_zero i hi.symm
    obtain ⟨s1, s2, -, -⟩ := sel_up i α hi.le
    rw [s1, s2, a1, a2, a3, a4, a5, a6, a7, a8, a9, zero_mul, Real.sin_zero]
    rcases Nat.lt_trichotomy (ctr j) j.val with hj | hj | hj
    · obtain ⟨b1, b2, b3, b4, b5⟩ := row_pos j hj
      obtain ⟨-, -, t1, t2⟩ := sel_up j γ hj.le
      rw [t1, t2, b1, b2, b3, b4, b5]
      exact entry_zero_pos _ _ _ _ _ _ _
    · obtain ⟨b1, b2, b3, b4, b5, b6, b7, b8, b9⟩ := row_zero j hj.symm
      obtain ⟨-, -, t1, t2⟩ := sel_up j γ hj.le
      rw [t1, t2, b1, b2, b3, b4, b5, b6, b7, b8, b9, zero_mul, Real.sin_zero]
      exact entry_zero_zero _ _ _ _ r2_mul
    · obtain ⟨b1, b2, b3, b4, b5⟩ := row_neg j hj
      obtain ⟨-, -, t1, t2⟩ := sel_down j γ hj
      rw [t1, t2, b1, b2, b3, b4, b5]
      exact entry_zero_neg _ _ _ _ _ _ _
  · obtain ⟨a1, a2, a3, a4, a5⟩ := row_neg i hi
    obtain ⟨s1, s2, -, -⟩ := sel_down i α hi
    rw [s1, s2, a1, a2, a3, a4, a5]
    rcases Nat.lt_trichotomy (ctr j) j.val with hj | hj | hj
    · obtain ⟨b1, b2, b3, b4, b5⟩ := row_pos j hj
      obtain ⟨-, -, t1, t2⟩ := sel_up j γ hj.le
      rw [t1, t2, b1, b2, b3, b4, b5]
      exact entry_neg_pos _ _ _ _ _ _ _ _ _ _ _ r2_mul
    · obtain ⟨b1, b2, b3, b4, b5, b6, b7, b8, b9⟩ := row_zero j hj.symm
      obtain ⟨-, -, t1, t2⟩ := sel_up j γ hj.le
      rw [t1, t2, b1, b2, b3, b4, b5, b6, b7, b8, b9, zero_mul, Real.sin_zero]
      exact entry_neg_zero _ _ _ _ _ _ _
    · obtain ⟨b1, b2, b3, b4, b5⟩ := row_neg j hj
      obtain ⟨-, -, t1, t2⟩ := sel_down j γ hj
      rw [t1, t2, b1, b2, b3, b4, b5]
      exact entry_neg_neg _ _ _ _ _ _ _ _ _ _ _ r2_mul

/-- Where the four entries of the small-d matrix are 0 the reference's entry is 0. -/
theorem entryR_zero (C S G H a b v w a' b' v' w' : ℝ) : entryR 0 0 0 0 C S G H a b v w a' b' v' w' = 0 := by
  simp only [entryR]
  ring

/-- Rows of different degrees meet at 0. -/
theorem entryR_off (c s : ℝ) (i j : Fin 81) (e : deg i ≠ deg j) (C S G H a b v w a' b' v' w' : ℝ) :
    entryR (small c s (pos i) (pos j)) (small c s (pos i) (neg j)) (small c s (neg i) (pos j)) (small c s (neg i) (neg j))
      C S G H a b v w a' b' v' w' = 0 := by
  have pi := Host.deg_pos i
  have ni := Host.deg_neg i
  have pj := Host.deg_pos j
  have nj := Host.deg_neg j
  rw [small_off _ _ (by rw [pi, pj]; exact e), small_off _ _ (by rw [pi, nj]; exact e),
    small_off _ _ (by rw [ni, pj]; exact e), small_off _ _ (by rw [ni, nj]; exact e), entryR_zero]

end Cert.Wigner

end
-- ==== Proof.Angles.lean ====
/- What the precondition says of the three angles: they are real numbers, and the cosine and the sine of half of beta are at
   least the floor of the kernel's logarithms. -/
module

public import proofs.«01_k».proof.Proof.Words
public import proofs.«01_k».proof.Proof.Gen.Pre_angles
public import Idealize.ShloMosaic.Lib.ReduceAll

@[expose] public noncomputable section

namespace Cert.Wigner

open Idealize.ShloMosaic

theorem word_top : Ideal.ofBits .f32 0x7F800000#32 = (⊤ : EReal) := by simp [Ideal.ofBits, Ideal.ieee]
theorem word_bot : Ideal.ofBits .f32 0xFF800000#32 = (⊥ : EReal) := by simp [Ideal.ofBits, Ideal.ieee]

/-- An extended real strictly between the infinities is a real. -/
theorem real_inside (x : EReal) (ha : (⊥ : EReal) < x) (hb : x < (⊤ : EReal)) : ∃ r : ℝ, x = (r : EReal) :=
  ⟨x.toReal, (EReal.coe_toReal hb.ne ha.ne').symm⟩

/-- A comparison that answers 1 holds. -/
theorem of_bit {p : Prop} [Decidable p] (h : BitVec.ofBool (decide p) = 1#1) : p := by
  by_contra hp
  rw [decide_eq_false hp] at h
  exact absurd h (by decide)

/-- Of half of a real number, as the precondition multiplies. -/
theorem half_mul (x : EReal) (β : ℝ) (h : x = (β : EReal)) : Ideal.ofBits .f32 0x3F000000#32 * x = ((1 / 2 * β : ℝ) : EReal) := by
  rw [h, word_half, EReal.coe_mul]

/-- The precondition at one element of the three arrays. -/
theorem angles_at (a0 a1 a2 : FVec Ideal Cert.Pre_angles.S4096 .f32)
    (h : Cert.Pre_angles.fn (F := Ideal) a0 a1 a2 = fun _ => 1#1) (n : Fin 4096) :
    ∃ α β γ : ℝ, a0 (ix1 n) = (α : EReal) ∧ a1 (ix1 n) = (β : EReal) ∧ a2 (ix1 n) = (γ : EReal) ∧
      10633824 / 2 ^ 123 ≤ Real.cos (1 / 2 * β) ∧ 10633824 / 2 ^ 123 ≤ Real.sin (1 / 2 * β) := by
  haveI : Subsingleton Cert.Pre_angles.S_.Idx := ⟨fun x y => funext fun a => a.elim0⟩
  have e := congrFun h (fun a => a.elim0)
  unfold Cert.Pre_angles.fn Cert.Pre_angles.fn_part1 Cert.Pre_angles.fn_part2 at e
  obtain ⟨e1, es⟩ := IntOp.andi_eq_one.1 e
  obtain ⟨e2, ec⟩ := IntOp.andi_eq_one.1 e1
  obtain ⟨e3, eg⟩ := IntOp.andi_eq_one.1 e2
  obtain ⟨ea, eb⟩ := IntOp.andi_eq_one.1 e3
  obtain ⟨la, ua⟩ := IntOp.andi_eq_one.1 (Host.reduce_andi_all _ _ _ _ _ ea (ix1 n))
  obtain ⟨lb, ub⟩ := IntOp.andi_eq_one.1 (Host.reduce_andi_all _ _ _ _ _ eb (ix1 n))
  obtain ⟨lg, ug⟩ := IntOp.andi_eq_one.1 (Host.reduce_andi_all _ _ _ _ _ eg (ix1 n))
  have lc := Host.reduce_andi_all _ _ _ _ _ ec (ix1 n)
  have ls := Host.reduce_andi_all _ _ _ _ _ es (ix1 n)
  have la' : Ideal.ofBits .f32 0xFF800000#32 < a0 (ix1 n) := of_bit la
  have ua' : a0 (ix1 n) < Ideal.ofBits .f32 0x7F800000#32 := of_bit ua
  have lb' : Ideal.ofBits .f32 0xFF800000#32 < a1 (ix1 n) := of_bit lb
  have ub' : a1 (ix1 n) < Ideal.ofBits .f32 0x7F800000#32 := of_bit ub
  have lg' : Ideal.ofBits .f32 0xFF800000#32 < a2 (ix1 n) := of_bit lg
  have ug' : a2 (ix1 n) < Ideal.ofBits .f32 0x7F800000#32 := of_bit ug
  have lc' : Ideal.ofBits .f32 0x0DA24260#32 ≤ Ideal.cos (Ideal.ofBits .f32 0x3F000000#32 * a1 (ix1 n)) := of_bit lc
  have ls' : Ideal.ofBits .f32 0x0DA24260#32 ≤ Ideal.sin (Ideal.ofBits .f32 0x3F000000#32 * a1 (ix1 n)) := of_bit ls
  rw [word_bot] at la' lb' lg'
  rw [word_top] at ua' ub' ug'
  obtain ⟨α, hα⟩ := real_inside _ la' ua'
  obtain ⟨β, hβ⟩ := real_inside _ lb' ub'
  obtain ⟨γ, hγ⟩ := real_inside _ lg' ug'
  rw [half_mul _ β hβ, word_floor, Ideal.cos_coe, EReal.coe_le_coe_iff] at lc'
  rw [half_mul _ β hβ, word_floor, Ideal.sin_coe, EReal.coe_le_coe_iff] at ls'
  exact ⟨α, β, γ, hα, hβ, hγ, lc', ls'⟩

end Cert.Wigner

end
-- ==== Proof.Result.lean ====
/- Under the precondition the kernel's result array is the reference's function of the arguments, entry by entry. -/
module

public import proofs.«01_k».proof.Proof.Array
public import proofs.«01_k».proof.Proof.Match
public import proofs.«01_k».proof.Proof.Angles

@[expose] public noncomputable section

namespace Cert.Wigner.Kernel

open Cert.KernelIdeal Cert.KernelIdeal.Gen Idealize.ShloMosaic Idealize.ShloMosaic.TcCoe Idealize.SL Idealize.SL.Sem

variable (m : (ℓ : Loc nD τ sig) → Buf (Elt Ideal) ℓ) (c : Dev nD)

/-- Every row is a row of a grid point. -/
theorem row_of (n : Fin 4096) : ∃ (t : Fin cfg0.N) (b : Fin 128), n = rowAt t b := by
  have hn := n.isLt
  have ht : n.val / 128 < 32 := by omega
  refine ⟨⟨n.val / 128, ht⟩, ⟨n.val % 128, by omega⟩, Fin.ext ?_⟩
  show n.val = n.val / 128 * 128 + n.val % 128
  omega

/-- The result array of the kernel is the reference's result. -/
theorem array_eq (h : Cert.Pre_angles.fn (F := Ideal) (m ((c : Thread nD τ).loc main_arg0)) (m ((c : Thread nD τ).loc main_arg1))
      (m ((c : Thread nD τ).loc main_arg2)) = fun _ => 1#1) :
    ((dats m 0 c).arrAt 6 cfg0.N : FVec Ideal S4096x81x81 .f32)
      = Reference.result (m ((c : Thread nD τ).loc main_arg0)) (m ((c : Thread nD τ).loc main_arg1)) (m ((c : Thread nD τ).loc main_arg2)) := by
  choose α β γ h0 h1 h2 hc hs using angles_at _ _ _ h
  funext k
  obtain ⟨n, i, j, rfl⟩ : ∃ (n : Fin 4096) (i j : Fin 81), k = ix3 n i j := ⟨k 0, k 1, k 2, (eq_ix3 k)⟩
  obtain ⟨t, b, rfl⟩ := row_of n
  rw [Reference.result_entry _ _ _ α β γ h0 h1 h2, array_block, laid]
  by_cases e : deg i = deg j
  · rw [dif_pos e, strip_entry _ _ _ b (α (rowAt t b)) (β (rowAt t b)) (γ (rowAt t b))
      ((block_alpha m c t b).trans (h0 _)) ((block_beta m c t b).trans (h1 _)) ((block_gamma m c t b).trans (h2 _))
      (hc _) (hs _) i j e]
    have q : (1 / 2 : ℝ) * β (rowAt t b) = β (rowAt t b) / 2 := by ring
    rw [q]
    exact congrArg _ (entries_agree (fun x y => small (Real.cos (β (rowAt t b) / 2)) (Real.sin (β (rowAt t b) / 2)) x y)
      (α (rowAt t b)) (γ (rowAt t b)) i j)
  · rw [dif_neg e]
    exact congrArg _ (entryR_off _ _ i j e _ _ _ _ _ _ _ _ _ _ _ _).symm

end Cert.Wigner.Kernel

end
-- ==== Proof.lean ====
/- The claims: the three programs end, touch nothing but their results and leave every semaphore at zero; the idealized
   kernel is the kernel's own text; and under the precondition on the angles the idealized kernel and the idealized
   reference give the same array. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_angles
public import proofs.«01_k».proof.Proof.Result
public import Idealize.ShloMosaic.Adequacy
public import Idealize.ShloMosaic.Init

@[expose] public section

noncomputable section

namespace Cert.Proof

open Idealize.ShloMosaic Idealize.SL.Sem

/-- The reference ends, keeps its arguments and has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same angles the two programs reach the same array. -/
theorem same_array : Cert.algebraic_KernelIdeal_ReferenceIdeal_pre_angles := by
  intro m ρ m' ρ' hpre hagree
  refine ⟨_, Cert.KernelIdeal.Value.run_blocks m ρ, ?_⟩
  refine (θ_run Cert.ReferenceIdeal.defs _ _).mono (fun r h c => ⟨(h c).1.trans ?_, (h c).2⟩) (Cert.ReferenceIdeal.Value.run (F := Ideal) m' ρ')
  obtain ⟨e0, e1, e2⟩ := hagree c
  rw [Cert.Wigner.Reference.res_eq, Cert.Wigner.Kernel.array_eq m c (hpre c)]
  exact congr (congr (congrArg Cert.Wigner.Reference.result e0) e1) e2

theorem claim : Cert.Claim := ⟨Cert.Kernel.Gen.facts, Cert.KernelIdeal.Gen.facts, Cert.ReferenceIdeal.Gen.facts, Cert.Pre_angles.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_array⟩

end Cert.Proof

end
